-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_on_separated [hKernelIdeal : Cert.KernelIdeal.Facts] [hReferenceIdeal : Cert.ReferenceIdeal.Facts] [hOn_separated : Cert.On_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32768, 64]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.KernelIdeal.nD Cert.KernelIdeal.τ).loc Cert.KernelIdeal.main_v1_0) i = v0 c i)
          ∧ (∀ i : (⟨2, ![32768, 8]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.KernelIdeal.nD Cert.KernelIdeal.τ).loc Cert.KernelIdeal.main_v1_1) i = v1 c i)
          ∧ (∀ i : (⟨2, ![32768, 8]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.KernelIdeal.nD Cert.KernelIdeal.τ).loc Cert.KernelIdeal.main_v1_2) i = v2 c i)
          ∧ (∀ i : (⟨3, ![64, 8, 32768]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 i = 1#1 → r.2.mem ((c.tc : Thread Cert.KernelIdeal.nD Cert.KernelIdeal.τ).loc Cert.KernelIdeal.main_v1_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![32768, 64]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 i = 1#1 → r.2.mem ((c.tc : Thread Cert.ReferenceIdeal.nD Cert.ReferenceIdeal.τ).loc Cert.ReferenceIdeal.main_v4) i = v0 c i)
          ∧ (∀ i : (⟨2, ![32768, 8]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 i = 1#1 → r.2.mem ((c.tc : Thread Cert.ReferenceIdeal.nD Cert.ReferenceIdeal.τ).loc Cert.ReferenceIdeal.main_v19) i = v1 c i)
          ∧ (∀ i : (⟨2, ![32768, 8]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 i = 1#1 → r.2.mem ((c.tc : Thread Cert.ReferenceIdeal.nD Cert.ReferenceIdeal.τ).loc Cert.ReferenceIdeal.main_indices) i = v2 c i)
          ∧ (∀ i : (⟨3, ![64, 8, 32768]⟩ : Shape).Idx, (Cert.On_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 i = 1#1 → r.2.mem ((c.tc : Thread Cert.ReferenceIdeal.nD Cert.ReferenceIdeal.τ).loc Cert.ReferenceIdeal.main_v21) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hOn_separated : Cert.On_separated.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_separated (hKernelIdeal := hKernelIdeal) (hReferenceIdeal := hReferenceIdeal) (hOn_separated := hOn_separated)
-- ==== On_separated.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩
abbrev S_ : Shape := ⟨0, ![]⟩
abbrev S32768x1x64 : Shape := ⟨3, ![32768, 1, 64]⟩
abbrev S32768x64x1 : Shape := ⟨3, ![32768, 64, 1]⟩
abbrev S32768x64x64 : Shape := ⟨3, ![32768, 64, 64]⟩
abbrev S32768 : Shape := ⟨1, ![32768]⟩
abbrev S32768x1 : Shape := ⟨2, ![32768, 1]⟩
abbrev S32768x8 : Shape := ⟨2, ![32768, 8]⟩
abbrev S1x1x32768 : Shape := ⟨3, ![1, 1, 32768]⟩
abbrev S64x8x32768 : Shape := ⟨3, ![64, 8, 32768]⟩

class Facts : Prop where
  transposes_S64x4096_S4096x64_1_0 : S64x4096.Transposes [1, 0] S4096x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  bcast_S_S32768x64 : S_.BroadcastsInDim S32768x64 (![] : Fin 0 → Fin S32768x64.rank)
  bcast_S32768x64_S32768x1x64_0_2 : S32768x64.BroadcastsInDim S32768x1x64 (![0, 2] : Fin 2 → Fin S32768x1x64.rank)
  bcast_S32768x64_S32768x64x1_0_1 : S32768x64.BroadcastsInDim S32768x64x1 (![0, 1] : Fin 2 → Fin S32768x64x1.rank)
  bcast_S32768x1x64_S32768x64x64_0_1_2 : S32768x1x64.BroadcastsInDim S32768x64x64 (![0, 1, 2] : Fin 3 → Fin S32768x64x64.rank)
  bcast_S32768x64x1_S32768x64x64_0_1_2 : S32768x64x1.BroadcastsInDim S32768x64x64 (![0, 1, 2] : Fin 3 → Fin S32768x64x64.rank)
  natLt_1_32 : 1 < 32
  reducesTo_S32768x64x64_S32768x64_d2 : S32768x64x64.ReducesTo [2] S32768x64
  h_S_ : 0 < S_.numel
  reducesTo_S32768x64_S32768_d1 : S32768x64.ReducesTo [1] S32768
  bcast_S32768_S32768x1_0 : S32768.BroadcastsInDim S32768x1 (![0] : Fin 1 → Fin S32768x1.rank)
  bcast_S32768x1_S32768x8_0_1 : S32768x1.BroadcastsInDim S32768x8 (![0, 1] : Fin 2 → Fin S32768x8.rank)
  bcast_S32768_S1x1x32768_2 : S32768.BroadcastsInDim S1x1x32768 (![2] : Fin 1 → Fin S1x1x32768.rank)
  bcast_S1x1x32768_S64x8x32768_0_1_2 : S1x1x32768.BroadcastsInDim S64x8x32768 (![0, 1, 2] : Fin 3 → Fin S64x8x32768.rank)
  dot_S32768x4096_S4096x64_S32768x64_1_0_0_1_n_n_wf : DotDims.WF S32768x4096 S4096x64 S32768x64 [1] [0] [0] [1] [] []

variable [Facts]

def dot_S32768x4096_S4096x64_S32768x64_1_0_0_1_n_n : DotDims S32768x4096 S4096x64 S32768x64 where
  lhsContracting := [1]
  rhsContracting := [0]
  lhsNonContracting := [0]
  rhsNonContracting := [1]
  lhsBatch := []
  rhsBatch := []
  wf := dot_S32768x4096_S4096x64_S32768x64_1_0_0_1_n_n_wf
def fn_part1 {F : FTy → Type} [FloatOps F] (main_v7 : IVec S32768x64 1) (main_v14 : IVec S32768x64 32) (main_v20 : IVec S32768x64x64 32) (main_c_0 : IVec S_ 32) : IVec S32768x64 1 × IVec S32768x8 1 × IVec S32768x8 1 × IVec S64x8x32768 1 :=
  let main_v21 : IVec S32768x64 32 := (fun x v => Host.reduce IntOp.addi x v reducesTo_S32768x64x64_S32768x64_d2 h_S_) main_v20 main_c_0
  let main_c_1 : IVec S_ 32 := constantI S_ 32 8#32
  let main_v22 : IVec S32768x64 32 := broadcastInDim S32768x64 ![] bcast_S_S32768x64 main_c_1
  let main_v23 : IVec S32768x64 1 := cmpi .sge main_v14 main_v22
  let main_c_2 : IVec S_ 32 := constantI S_ 32 1#32
  let main_v24 : IVec S32768x64 32 := broadcastInDim S32768x64 ![] bcast_S_S32768x64 main_c_2
  let main_v25 : IVec S32768x64 1 := cmpi .eq main_v21 main_v24
  let main_v26 : IVec S32768x64 1 := andi main_v25 main_v7
  let main_v27 : IVec S32768x64 1 := ori main_v23 main_v26
  let main_c_3 : IVec S_ 1 := constantI S_ 1 1#1
  let main_v28 : IVec S32768 1 := (fun x v => Host.reduce IntOp.andi x v reducesTo_S32768x64_S32768_d1 h_S_) main_v27 main_c_3
  let main_c_4 : IVec S_ 1 := constantI S_ 1 1#1
  let main_v29 : IVec S32768x64 1 := broadcastInDim S32768x64 ![] bcast_S_S32768x64 main_c_4
  let main_v30 : IVec S32768x1 1 := broadcastInDim S32768x1 ![0] bcast_S32768_S32768x1_0 main_v28
  let main_v31 : IVec S32768x8 1 := broadcastInDim S32768x8 ![0, 1] bcast_S32768x1_S32768x8_0_1 main_v30
  let main_v32 : IVec S32768x1 1 := broadcastInDim S32768x1 ![0] bcast_S32768_S32768x1_0 main_v28
  let main_v33 : IVec S32768x8 1 := broadcastInDim S32768x8 ![0, 1] bcast_S32768x1_S32768x8_0_1 main_v32
  let main_v34 : IVec S1x1x32768 1 := broadcastInDim S1x1x32768 ![2] bcast_S32768_S1x1x32768_2 main_v28
  let main_v35 : IVec S64x8x32768 1 := broadcastInDim S64x8x32768 ![0, 1, 2] bcast_S1x1x32768_S64x8x32768_0_1_2 main_v34
  (main_v29, main_v31, main_v33, main_v35)

def fn {F : FTy → Type} [FloatOps F] (main_arg0 : FVec F S32768x4096 .f32) (main_arg1 : FVec F S64x4096 .f32) (main_arg2 : FVec F S64 .f32) : IVec S32768x64 1 × IVec S32768x8 1 × IVec S32768x8 1 × IVec S64x8x32768 1 :=
  let main_v0 : FVec F S4096x64 .f32 := (transpose S4096x64 [1, 0] · transposes_S64x4096_S4096x64_1_0) main_arg1
  let main_v1 : FVec F S32768x64 .f32 := (fun l r => Host.dotGeneral dot_S32768x4096_S4096x64_S32768x64_1_0_0_1_n_n none l r) main_arg0 main_v0
  let main_v2 : FVec F S1x64 .f32 := broadcastInDim S1x64 ![1] bcast_S64_S1x64_1 main_arg2
  let main_v3 : FVec F S32768x64 .f32 := broadcastInDim S32768x64 ![0, 1] bcast_S1x64_S32768x64_0_1 main_v2
  let main_v4 : FVec F S32768x64 .f32 := addf main_v1 main_v3
  let main_v5 : FVec F S32768x64 .f32 := Host.absf main_v4
  let main_cst : FVec F S_ .f32 := constant S_ .f32 0x7F800000#32
  let main_v6 : FVec F S32768x64 .f32 := broadcastInDim S32768x64 ![] bcast_S_S32768x64 main_cst
  let main_v7 : IVec S32768x64 1 := cmpf .olt main_v5 main_v6
  let main_v8 : FVec F S32768x1x64 .f32 := broadcastInDim S32768x1x64 ![0, 2] bcast_S32768x64_S32768x1x64_0_2 main_v4
  let main_v9 : FVec F S32768x64x1 .f32 := broadcastInDim S32768x64x1 ![0, 1] bcast_S32768x64_S32768x64x1_0_1 main_v4
  let main_v10 : FVec F S32768x64x64 .f32 := broadcastInDim S32768x64x64 ![0, 1, 2] bcast_S32768x1x64_S32768x64x64_0_1_2 main_v8
  let main_v11 : FVec F S32768x64x64 .f32 := broadcastInDim S32768x64x64 ![0, 1, 2] bcast_S32768x64x1_S32768x64x64_0_1_2 main_v9
  let main_v12 : IVec S32768x64x64 1 := cmpf .ogt main_v10 main_v11
  let main_v13 : IVec S32768x64x64 32 := (extui 32 · natLt_1_32) main_v12
  let main_c : IVec S_ 32 := constantI S_ 32 0#32
  let main_v14 : IVec S32768x64 32 := (fun x v => Host.reduce IntOp.addi x v reducesTo_S32768x64x64_S32768x64_d2 h_S_) main_v13 main_c
  let main_v15 : FVec F S32768x1x64 .f32 := broadcastInDim S32768x1x64 ![0, 2] bcast_S32768x64_S32768x1x64_0_2 main_v4
  let main_v16 : FVec F S32768x64x1 .f32 := broadcastInDim S32768x64x1 ![0, 1] bcast_S32768x64_S32768x64x1_0_1 main_v4
  let main_v17 : FVec F S32768x64x64 .f32 := broadcastInDim S32768x64x64 ![0, 1, 2] bcast_S32768x1x64_S32768x64x64_0_1_2 main_v15
  let main_v18 : FVec F S32768x64x64 .f32 := broadcastInDim S32768x64x64 ![0, 1, 2] bcast_S32768x64x1_S32768x64x64_0_1_2 main_v16
  let main_v19 : IVec S32768x64x64 1 := cmpf .oeq main_v17 main_v18
  let main_v20 : IVec S32768x64x64 32 := (extui 32 · natLt_1_32) main_v19
  let main_c_0 : IVec S_ 32 := constantI S_ 32 0#32
  fn_part1 (F := F) main_v7 main_v14 main_v20 main_c_0
-- ==== Kernel.lean ====
abbrev S32768x4096 : Shape := ⟨2, ![32768, 4096]⟩
abbrev S64x4096 : Shape := ⟨2, ![64, 4096]⟩
abbrev S64 : Shape := ⟨1, ![64]⟩
abbrev S1x64 : Shape := ⟨2, ![1, 64]⟩
abbrev S32768x64 : Shape := ⟨2, ![32768, 64]⟩
abbrev S32768x8 : Shape := ⟨2, ![32768, 8]⟩
abbrev S64x8x32768 : Shape := ⟨3, ![64, 8, 32768]⟩
abbrev S1024x4096 : Shape := ⟨2, ![1024, 4096]⟩
abbrev S1024x64 : Shape := ⟨2, ![1024, 64]⟩
abbrev S1024x8 : Shape := ⟨2, ![1024, 8]⟩
abbrev S64x8x1024 : Shape := ⟨3, ![64, 8, 1024]⟩
abbrev S64x1024 : Shape := ⟨2, ![64, 1024]⟩
abbrev S1024 : Shape := ⟨1, ![1024]⟩
abbrev S1x1024 : Shape := ⟨2, ![1, 1024]⟩
abbrev S64x1x1024 : Shape := ⟨3, ![64, 1, 1024]⟩
abbrev S8x1024 : Shape := ⟨2, ![8, 1024]⟩

abbrev nBuf : Space → Nat
  | .hbm => 8
  | .vmem => 14
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S1x64, .f32⟩
  | .hbm, ⟨4, _⟩ => ⟨S32768x64, .f32⟩
  | .hbm, ⟨5, _⟩ => ⟨S32768x8, .f32⟩
  | .hbm, ⟨6, _⟩ => ⟨S32768x8, .i32⟩
  | .hbm, ⟨7, _⟩ => ⟨S64x8x32768, .i32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | .local _ .vmem, ⟨6, _⟩ => ⟨S1024x8, .f32⟩
  | .local _ .vmem, ⟨7, _⟩ => ⟨S1024x8, .f32⟩
  | .local _ .vmem, ⟨8, _⟩ => ⟨S1024x8, .i32⟩
  | .local _ .vmem, ⟨9, _⟩ => ⟨S1024x8, .i32⟩
  | .local _ .vmem, ⟨10, _⟩ => ⟨S64x8x1024, .i32⟩
  | .local _ .vmem, ⟨11, _⟩ => ⟨S64x8x1024, .i32⟩
  | .local _ .vmem, ⟨12, _⟩ => ⟨S64x1024, .f32⟩
  | .local _ .vmem, ⟨13, _⟩ => ⟨S64x1024, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, c0_i32_1.toNat, v1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x8x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S32768x4096 : Shape := ⟨2, ![32768, 4096]⟩
abbrev S64x4096 : Shape := ⟨2, ![64, 4096]⟩
abbrev S64 : Shape := ⟨1, ![64]⟩
abbrev S4096x64 : Shape := ⟨2, ![4096, 64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩
abbrev S32768x8 : Shape := ⟨2, ![32768, 8]⟩
abbrev S32768x8x1 : Shape := ⟨3, ![32768, 8, 1]⟩
abbrev S1x1x64 : Shape := ⟨3, ![1, 1, 64]⟩
abbrev S32768x8x64 : Shape := ⟨3, ![32768, 8, 64]⟩
abbrev S64x8x32768 : Shape := ⟨3, ![64, 8, 32768]⟩

abbrev nBuf : Space → Nat
  | .hbm => 36
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S64, .f32⟩
  | .hbm, ⟨3, _⟩ => ⟨S4096x64, .f32⟩
  | .hbm, ⟨4, _⟩ => ⟨S32768x64, .f32⟩
  | .hbm, ⟨5, _⟩ => ⟨S1x64, .f32⟩
  | .hbm, ⟨6, _⟩ => ⟨S32768x64, .f32⟩
  | .hbm, ⟨7, _⟩ => ⟨S32768x64, .f32⟩
  | .hbm, ⟨8, _⟩ => ⟨S_, .f32⟩
  | .hbm, ⟨9, _⟩ => ⟨S32768, .f32⟩
  | .hbm, ⟨10, _⟩ => ⟨S_, .f32⟩
  | .hbm, ⟨11, _⟩ => ⟨S32768, .f32⟩
  | .hbm, ⟨12, _⟩ => ⟨S32768, .f32⟩
  | .hbm, ⟨13, _⟩ => ⟨S32768x1, .f32⟩
  | .hbm, ⟨14, _⟩ => ⟨S32768x64, .f32⟩
  | .hbm, ⟨15, _⟩ => ⟨S32768x64, .f32⟩
  | .hbm, ⟨16, _⟩ => ⟨S32768x64, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S32768x64, .f32⟩
  | .hbm, ⟨21, _⟩ => ⟨S32768x64, .f32⟩
  | .hbm, ⟨22, _⟩ => ⟨S32768x8, .f32⟩
  | .hbm, ⟨23, _⟩ => ⟨S32768x8, .i32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S32768x8, .f32⟩
  | .hbm, ⟨28, _⟩ => ⟨S32768x8, .f32⟩
  | .hbm, ⟨29, _⟩ => ⟨S32768x8x1, .i32⟩
  | .hbm, ⟨30, _⟩ => ⟨S1x1x64, .i32⟩
  | .hbm, ⟨31, _⟩ => ⟨S32768x8x64, .i32⟩
  | .hbm, ⟨32, _⟩ => ⟨S32768x8x64, .i32⟩
  | .hbm, ⟨33, _⟩ => ⟨S32768x8x64, .i1⟩
  | .hbm, ⟨34, _⟩ => ⟨S32768x8x64, .i32⟩
  | .hbm, ⟨35, _⟩ => ⟨S64x8x32768, .i32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Proof.Block.lean ====
/- What one grid point of the kernel computes from the blocks it is handed, as functions of those blocks: the logits of a
   block of tokens, and, of a transposed block of logits, eight rounds of «take the maximum, mark where it is attained,
   strike it out». The values that the kernel's text computes are these functions, one lemma a value. -/
module

public import proofs.«01_k».proof.Proof.Gen.KernelIdeal.Skeleton

@[expose] public section

noncomputable section

namespace Cert.KernelIdeal

open Idealize.ShloMosaic Idealize.SL.Sem
open Cert.KernelIdeal.Gen

variable {F : FTy → Type} [FloatOps F]

/-- The row of column maxima of a transposed block of logits. -/
def maxRow (l : FVec F S64x1024 .f32) : FVec F S1x1024 .f32 :=
  shapeCast S1x1024 (multiReduction .maximumf [0] S1024 l 0xFF800000#32 reduces_S64x1024_S1024 (.inl rfl) rfl) shapeCasts_S1024_S1x1024

/-- Where a column's entry equals the column's maximum. -/
def hit (l : FVec F S64x1024 .f32) : IVec S64x1024 1 :=
  cmpf .oeq l (broadcastTo S64x1024 (maxRow l) broadcasts_S1x1024_S64x1024)

/-- The number of each row. -/
def rowNumber : IVec S64x1024 32 := iota .tc S64x1024 32 [0] iota_S64x1024_d0_w32

/-- The least row where the column's maximum is attained. -/
def argRow (l : FVec F S64x1024 .f32) : IVec S1x1024 32 :=
  shapeCast S1x1024 (multiReductionI .minsi [0] S1024 (select (hit l) rowNumber (broadcast S64x1024 64#32)) 2147483647#32
    reduces_S64x1024_S1024 rfl) shapeCasts_S1024_S1x1024

/-- The block with the entries that attain their column's maximum struck out. -/
def strike (l : FVec F S64x1024 .f32) : FVec F S64x1024 .f32 :=
  select (hit l) (broadcast S64x1024 (Scalar.ofBits .f32 0xFF800000#32 : F .f32)) l

/-- The block after `r` rounds. -/
def after (l : FVec F S64x1024 .f32) : ℕ → FVec F S64x1024 .f32
  | 0 => l
  | r + 1 => strike (after l r)

theorem after_zero (l : FVec F S64x1024 .f32) : after l 0 = l := rfl
theorem after_succ (l : FVec F S64x1024 .f32) (r : ℕ) : after l (r + 1) = strike (after l r) := rfl

/-- The weights that eight rounds on a transposed block of logits give. -/
def weightsOf (l : FVec F S64x1024 .f32) : FVec F S1024x8 .f32 :=
  k0_pay43 (maxRow (after l 0)) (maxRow (after l 1)) (maxRow (after l 2)) (maxRow (after l 3))
    (maxRow (after l 4)) (maxRow (after l 5)) (maxRow (after l 6)) (maxRow (after l 7))

/-- The experts' numbers that they give. -/
def indicesOf (l : FVec F S64x1024 .f32) : IVec S1024x8 32 :=
  k0_pay44 (argRow (after l 0)) (argRow (after l 1)) (argRow (after l 2)) (argRow (after l 3))
    (argRow (after l 4)) (argRow (after l 5)) (argRow (after l 6)) (argRow (after l 7))

/-- The marks that they give: at expert, round, token, whether the expert attains the token's maximum in that round. -/
def marksOf (l : FVec F S64x1024 .f32) : IVec S64x8x1024 32 :=
  fun y => (extui 32 (hit (after l (y (1 : Fin 3)).val)) natLt_1_32 : IVec S64x1024 32)
    (fun a => match a with | ⟨0, _⟩ => y (0 : Fin 3) | ⟨1, _⟩ => y (2 : Fin 3))

/-- The logits of a block of tokens, transposed. -/
def logitsT (x : Vec F S1024x4096 .f32) (w : Vec F S64x4096 .f32) (b : Vec F S1x64 .f32) : FVec F S64x1024 .f32 :=
  transpose S64x1024 [1, 0] (k0_pay45 x w b) transposes_S1024x64_p1_0_S64x1024

/-! ## The values of the kernel's text -/

theorem pay3_eq (i : grid0.Coords) (a b : Vec F S64x1024 .f32) : k0_pay3 i a b = maxRow (k0_pay2 i a b) := rfl
theorem pay4_eq (i : grid0.Coords) (a b : Vec F S64x1024 .f32) : k0_pay4 i a b = hit (k0_pay2 i a b) := rfl
theorem pay5_eq (i : grid0.Coords) (a b : Vec F S64x1024 .f32) : k0_pay5 i a b = argRow (k0_pay2 i a b) := rfl
theorem pay7_eq (i : grid0.Coords) (a b : Vec F S64x1024 .f32) : k0_pay7 i a b = strike (k0_pay2 i a b) := rfl
theorem pay8_eq (i : grid0.Coords) (a b : Vec F S64x1024 .f32) : k0_pay8 i a b = maxRow (strike (k0_pay2 i a b)) := by
  rw [← pay7_eq]; rfl
theorem pay9_eq (i : grid0.Coords) (a b : Vec F S64x1024 .f32) : k0_pay9 i a b = hit (strike (k0_pay2 i a b)) := by
  rw [← pay7_eq]; rfl
theorem pay10_eq (i : grid0.Coords) (a b : Vec F S64x1024 .f32) : k0_pay10 i a b = argRow (strike (k0_pay2 i a b)) := by
  rw [← pay7_eq]; rfl
theorem pay12_eq (i : grid0.Coords) (a b : Vec F S64x1024 .f32) : k0_pay12 i a b = strike (strike (k0_pay2 i a b)) := by
  rw [← pay7_eq]; rfl
theorem pay13_eq (l : FVec F S64x1024 .f32) : k0_pay13 l = maxRow l := rfl
theorem pay14_eq (l : FVec F S64x1024 .f32) : k0_pay14 l = hit l := rfl
theorem pay15_eq (l : FVec F S64x1024 .f32) : k0_pay15 rowNumber l = argRow l := rfl
theorem pay17_eq (l : FVec F S64x1024 .f32) : k0_pay17 l = strike l := rfl
theorem pay18_eq (l : FVec F S64x1024 .f32) : k0_pay18 l = maxRow (strike l) := by rw [← pay17_eq]; rfl
theorem pay19_eq (l : FVec F S64x1024 .f32) : k0_pay19 l = hit (strike l) := by rw [← pay17_eq]; rfl
theorem pay20_eq (l : FVec F S64x1024 .f32) : k0_pay20 rowNumber l = argRow (strike l) := by rw [← pay17_eq]; rfl
theorem pay22_eq (l : FVec F S64x1024 .f32) : k0_pay22 l = strike (strike l) := by rw [← pay17_eq]; rfl
theorem pay23_eq (l : FVec F S64x1024 .f32) : k0_pay23 l = maxRow (strike (strike l)) := by rw [← pay22_eq]; rfl
theorem pay24_eq (l : FVec F S64x1024 .f32) : k0_pay24 l = hit (strike (strike l)) := by rw [← pay22_eq]; rfl
theorem pay25_eq (l : FVec F S64x1024 .f32) : k0_pay25 rowNumber l = argRow (strike (strike l)) := by rw [← pay22_eq]; rfl
theorem pay28_eq (l : FVec F S64x1024 .f32) : k0_pay28 l (hit l) = strike l := rfl
theorem pay29_eq (l : FVec F S64x1024 .f32) : k0_pay29 l (hit l) = maxRow (strike l) := by rw [← pay28_eq]; rfl
theorem pay30_eq (l : FVec F S64x1024 .f32) : k0_pay30 l (hit l) = hit (strike l) := by rw [← pay28_eq]; rfl
theorem pay31_eq (l : FVec F S64x1024 .f32) : k0_pay31 rowNumber l (hit l) = argRow (strike l) := by rw [← pay28_eq]; rfl
theorem pay33_eq (l : FVec F S64x1024 .f32) : k0_pay33 l (hit l) = strike (strike l) := by rw [← pay28_eq]; rfl
theorem pay34_eq (l : FVec F S64x1024 .f32) : k0_pay34 l (hit l) = maxRow (strike (strike l)) := by rw [← pay33_eq]; rfl
theorem pay35_eq (l : FVec F S64x1024 .f32) : k0_pay35 l (hit l) = hit (strike (strike l)) := by rw [← pay33_eq]; rfl
theorem pay36_eq (l : FVec F S64x1024 .f32) : k0_pay36 rowNumber l (hit l) = argRow (strike (strike l)) := by
  rw [← pay33_eq]; rfl
theorem pay38_eq (l : FVec F S64x1024 .f32) : k0_pay38 l (hit l) = strike (strike (strike l)) := by rw [← pay33_eq]; rfl
theorem pay39_eq (l : FVec F S64x1024 .f32) : k0_pay39 l (hit l) = maxRow (strike (strike (strike l))) := by
  rw [← pay38_eq]; rfl
theorem pay40_eq (l : FVec F S64x1024 .f32) : k0_pay40 l (hit l) = hit (strike (strike (strike l))) := by rw [← pay38_eq]; rfl
theorem pay41_eq (l : FVec F S64x1024 .f32) : k0_pay41 rowNumber l (hit l) = argRow (strike (strike (strike l))) := by
  rw [← pay38_eq]; rfl

end Cert.KernelIdeal
-- ==== Proof.Points.lean ====
/- What the grid points of the kernel share: the buffers a point works on, the point's parity as the kernel's text asks
   it, which of the two scratch buffers a point reads, and what a list of stores leaves in a buffer. -/
module

public import proofs.«01_k».proof.Proof.Block
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.WholeRead

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The kernel's question whether a point is even. -/
abbrev IsEven (i : grid0.Coords) : Prop :=
  (Scalar.cmpi .ne (Scalar.extui (Scalar.cmpi .eq (Scalar.remsi (BitVec.ofNat 32 (i 0).val) 2#32) 0#32)) 0#32) = 1#1
/-- The kernel's question whether a point is odd. -/
abbrev IsOdd (i : grid0.Coords) : Prop :=
  (Scalar.cmpi .ne (Scalar.extui (Scalar.cmpi .eq (Scalar.remsi (BitVec.ofNat 32 (i 0).val) 2#32) 1#32)) 0#32) = 1#1

theorem isEven_iff : ∀ t : Fin cfg0.N, IsEven (grid0.coords t) ↔ t.val % 2 = 0 :=
  (by decide +kernel : ∀ t : Fin grid0.N, IsEven (grid0.coords t) ↔ t.val % 2 = 0)
theorem isOdd_iff : ∀ t : Fin cfg0.N, IsOdd (grid0.coords t) ↔ t.val % 2 = 1 :=
  (by decide +kernel : ∀ t : Fin grid0.N, IsOdd (grid0.coords t) ↔ t.val % 2 = 1)

theorem selector_eq : ∀ t : Fin cfg0.N,
    Scalar.cmpi .eq (Scalar.remsi (Scalar.addi (BitVec.ofNat 32 (grid0.coords t 0).val) 1#32) 2#32) 0#32
      = if t.val % 2 = 1 then 1#1 else 0#1 :=
  (by decide +kernel : ∀ t : Fin grid0.N,
    Scalar.cmpi .eq (Scalar.remsi (Scalar.addi (BitVec.ofNat 32 (grid0.coords t 0).val) 1#32) 2#32) 0#32
      = if t.val % 2 = 1 then 1#1 else 0#1)

/-- An even point reads the second scratch buffer. -/
theorem reads_even (t : Fin cfg0.N) (h : t.val % 2 = 0) (a b : Vec F S64x1024 .f32) : k0_pay2 (grid0.coords t) a b = b := by
  unfold k0_pay2
  dsimp only
  rw [selector_eq t, if_neg (by omega)]
  rfl

/-- An odd point reads the first. -/
theorem reads_odd (t : Fin cfg0.N) (h : t.val % 2 = 1) (a b : Vec F S64x1024 .f32) : k0_pay2 (grid0.coords t) a b = a := by
  unfold k0_pay2
  dsimp only
  rw [selector_eq t, if_pos h]
  rfl

/-- Each window's buffer at a point, and that it is a whole buffer. -/
abbrev bufX (t : Fin cfg0.N) : Memref sig .tc .vmem S1024x4096 .f32 := win0_0.stage (cfg0.slots t 0)
abbrev bufW (t : Fin cfg0.N) : Memref sig .tc .vmem S64x4096 .f32 := win0_1.stage (cfg0.slots t 1)
abbrev bufB (t : Fin cfg0.N) : Memref sig .tc .vmem S1x64 .f32 := win0_2.stage (cfg0.slots t 2)
abbrev bufLogits (t : Fin cfg0.N) : Memref sig .tc .vmem S1024x64 .f32 := win0_3.stage (cfg0.slots t 3)
abbrev bufWeights (t : Fin cfg0.N) : Memref sig .tc .vmem S1024x8 .f32 := win0_4.stage (cfg0.slots t 4)
abbrev bufIndices (t : Fin cfg0.N) : Memref sig .tc .vmem S1024x8 .i32 := win0_5.stage (cfg0.slots t 5)
abbrev bufMarks (t : Fin cfg0.N) : Memref sig .tc .vmem S64x8x1024 .i32 := win0_6.stage (cfg0.slots t 6)
/-- The two scratch buffers. -/
abbrev scratchA : Memref sig .tc .vmem S64x1024 .f32 := Memref.whole cc0_scratch0
abbrev scratchB : Memref sig .tc .vmem S64x1024 .f32 := Memref.whole cc0_scratch1

/-- What the launch hands the kernel beside its windows: both scratch buffers at some contents, and the generator. -/
theorem start_eq (c : Dev nD) :
    (Pipeline.ΦA spec0 c : sProp 𝕄)
      = iprop(iprop((∃ d, owns (c : Thread nD τ) scratchA fullShare d) ∗ (∃ d, owns (c : Thread nD τ) scratchB fullShare d))
          ∗ (∃ r, prngReg c r)) := by
  unfold Pipeline.ΦA; rw [scopedRest0_eq]; simp only [scratchA, scratchB, owns_whole]; try rfl

/-- One store over a whole buffer leaves what was stored. -/
theorem read_store_whole {s : Shape} {e : EltTy} {sp : Space} (v : View sig .tc sp s e) (f : v.ty.Contents (Elt F))
    (off : Fin s.rank → ℕ) (hoff : ∀ a, off a = 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  funext y
  exact View.read_writes_cons_unit_of_mem v f inb w L y y rfl fun a => by rw [hoff a, Nat.zero_add]

/-- A load of a whole buffer reads its contents. -/
theorem load_whole {s : Shape} {e : EltTy} {sp : Space} {m : Memref sig .tc sp s e} (h : m.IsWhole) (X : s.Idx → Elt F e)
    (off : Fin s.rank → ℕ) (hoff : ∀ a, off a = 0) (inb : ∀ a, off a + s.size a ≤ s.size a) :
    View.readAt (Elt F) m.view (Rect.unit off s.size inb).toLoadRect (h.unread X) = X := by
  funext x
  rw [h.readAt_unread]
  congr 1
  funext a
  apply Fin.ext
  show off a + 1 * (x a).val = (x a).val
  rw [hoff a, Nat.zero_add, Nat.one_mul]

/-- A shape cast to the shape itself changes nothing. -/
theorem shapeCast_same {s : Shape} {α : Type} (x : s.Idx → α) (h : s.ShapeCasts s) : shapeCast s x h = x :=
  funext fun j => shapeCast_apply x h j j rfl

/-- The offsets of a store or a load of a whole block. -/
theorem zero2 : ∀ a : Fin 2, (![0, 0] : Fin 2 → ℕ) a = 0 := by decide

/-- The marks of round `r` as the kernel lays them out for its store: one row of the second axis. -/
def slab (l : FVec F S64x1024 .f32) : IVec S64x1x1024 32 :=
  shapeCast S64x1x1024 (extui 32 (hit l) natLt_1_32) shapeCasts_S64x1024_S64x1x1024

/-- Such a row at an index. -/
theorem slab_apply (l : FVec F S64x1024 .f32) (y : S64x1x1024.Idx) :
    slab l y = (extui 32 (hit l) natLt_1_32 : IVec S64x1024 32)
      (fun a => match a with | ⟨0, _⟩ => y (0 : Fin 3) | ⟨1, _⟩ => y (2 : Fin 3)) := by
  unfold slab
  refine shapeCast_apply _ shapeCasts_S64x1024_S64x1x1024 y _ ?_
  rw [Shape.rowMajor_val_two, Shape.rowMajor_val_three]
  show (y (0 : Fin 3)).val * 1024 + (y (2 : Fin 3)).val
    = ((y (0 : Fin 3)).val * 1 + (y (1 : Fin 3)).val) * 1024 + (y (2 : Fin 3)).val
  have h1 : (y (1 : Fin 3)).val < 1 := (y (1 : Fin 3)).isLt
  omega

theorem pay6_eq (i : grid0.Coords) (a b : Vec F S64x1024 .f32) : k0_pay6 i a b = slab (k0_pay2 i a b) := rfl
theorem pay11_eq (i : grid0.Coords) (a b : Vec F S64x1024 .f32) : k0_pay11 i a b = slab (strike (k0_pay2 i a b)) := by
  unfold k0_pay11; rw [pay9_eq]; rfl
theorem pay16_eq (l : FVec F S64x1024 .f32) : k0_pay16 l = slab l := rfl
theorem pay21_eq (l : FVec F S64x1024 .f32) : k0_pay21 l = slab (strike l) := by unfold k0_pay21; rw [pay19_eq]; rfl
theorem pay27_eq (l : FVec F S64x1024 .f32) : k0_pay27 (k0_pay26 l) = slab (strike (strike l)) := by
  unfold k0_pay26; rw [pay24_eq]; rfl
theorem pay32_eq (l : FVec F S64x1024 .f32) : k0_pay32 l (hit l) = slab (strike l) := by unfold k0_pay32; rw [pay30_eq]; rfl
theorem pay37_eq (l : FVec F S64x1024 .f32) : k0_pay37 l (hit l) = slab (strike (strike l)) := by
  unfold k0_pay37; rw [pay35_eq]; rfl
theorem pay42_eq (l : FVec F S64x1024 .f32) : k0_pay42 (hit l) = slab l := rfl

/-- Eight stores, one a row of the second axis, leave the marks. -/
theorem read_slabs (v : View sig .tc .vmem S64x8x1024 .i32) (f : v.ty.Contents (Elt F)) (l : FVec F S64x1024 .f32) :
    v.read (Elt F) (v.writes (Elt F) f
      [⟨Rect.unit ![0, 7, 0] S64x1x1024.size inb_S64x8x1024_S64x1x1024_0_7_0, slab (after l 7)⟩,
       ⟨Rect.unit ![0, 6, 0] S64x1x1024.size inb_S64x8x1024_S64x1x1024_0_6_0, slab (after l 6)⟩,
       ⟨Rect.unit ![0, 5, 0] S64x1x1024.size inb_S64x8x1024_S64x1x1024_0_5_0, slab (after l 5)⟩,
       ⟨Rect.unit ![0, 4, 0] S64x1x1024.size inb_S64x8x1024_S64x1x1024_0_4_0, slab (after l 4)⟩,
       ⟨Rect.unit ![0, 3, 0] S64x1x1024.size inb_S64x8x1024_S64x1x1024_0_3_0, slab (after l 3)⟩,
       ⟨Rect.unit ![0, 2, 0] S64x1x1024.size inb_S64x8x1024_S64x1x1024_0_2_0, slab (after l 2)⟩,
       ⟨Rect.unit ![0, 1, 0] S64x1x1024.size inb_S64x8x1024_S64x1x1024_0_1_0, slab (after l 1)⟩,
       ⟨Rect.unit ![0, 0, 0] S64x1x1024.size inb_S64x8x1024_S64x1x1024_0_0_0, slab (after l 0)⟩]) = marksOf l := by
  funext y
  have piece : ∀ (r : ℕ) (inb : ∀ a, (![0, r, 0] : Fin 3 → ℕ) a + S64x1x1024.size a ≤ S64x8x1024.size a)
      (x : (Rect.unit (s := S64x8x1024) ![0, r, 0] S64x1x1024.size inb).shape.Idx),
      (slab (after l r) : S64x1x1024.Idx → Elt F .i32) x
        = marksOf l ((Rect.unit (s := S64x8x1024) ![0, r, 0] S64x1x1024.size inb).emb x) := by
    intro r inb x
    rw [slab_apply]
    unfold marksOf
    have h1 : (((Rect.unit (s := S64x8x1024) ![0, r, 0] S64x1x1024.size inb).emb x) (1 : Fin 3)).val = r := by
      show r + 1 * (x (1 : Fin 3)).val = r
      have : (x (1 : Fin 3)).val < 1 := (x (1 : Fin 3)).isLt
      omega
    rw [h1]
    congr 1
    funext a
    match a with
    | ⟨0, _⟩ =>
      apply Fin.ext
      show (x (0 : Fin 3)).val = 0 + 1 * (x (0 : Fin 3)).val
      omega
    | ⟨1, _⟩ =>
      apply Fin.ext
      show (x (2 : Fin 3)).val = 0 + 1 * (x (2 : Fin 3)).val
      omega
  apply View.read_writes_apply_of_pieces
  · intro p hp
    simp only [List.mem_cons, List.not_mem_nil, or_false] at hp
    rcases hp with rfl | rfl | rfl | rfl | rfl | rfl | rfl | rfl
    · exact piece 7 inb_S64x8x1024_S64x1x1024_0_7_0
    · exact piece 6 inb_S64x8x1024_S64x1x1024_0_6_0
    · exact piece 5 inb_S64x8x1024_S64x1x1024_0_5_0
    · exact piece 4 inb_S64x8x1024_S64x1x1024_0_4_0
    · exact piece 3 inb_S64x8x1024_S64x1x1024_0_3_0
    · exact piece 2 inb_S64x8x1024_S64x1x1024_0_2_0
    · exact piece 1 inb_S64x8x1024_S64x1x1024_0_1_0
    · exact piece 0 inb_S64x8x1024_S64x1x1024_0_0_0
  · exact View.cover_of_tiled (s := S64x8x1024) _ S64x1x1024.size rfl y

end Cert.KernelIdeal
-- ==== Proof.RunEven.lean ====
/- The body of the kernel at an even point: what it leaves in every buffer, named. -/
module

public import proofs.«01_k».proof.Proof.Points

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 1000000 in
/-- The body of the kernel at an even point, on whole buffers: the inputs' buffers keep their blocks; the logits' buffer gets
    the block's logits and the first scratch buffer their transpose; the other results' buffers get what eight rounds on the
    second scratch buffer's block give; the second scratch buffer is kept. -/
theorem run_even (c : Dev nD) (i : grid0.Coords) (arg1 : Memref sig .tc .vmem S1024x4096 .f32) (harg1 : arg1.IsWhole) (arg2 : Memref sig .tc .vmem S64x4096 .f32) (harg2 : arg2.IsWhole) (arg3 : Memref sig .tc .vmem S1x64 .f32) (harg3 : arg3.IsWhole) (arg4 : Memref sig .tc .vmem S1024x64 .f32) (harg4 : arg4.IsWhole) (arg5 : Memref sig .tc .vmem S1024x8 .f32) (harg5 : arg5.IsWhole) (arg6 : Memref sig .tc .vmem S1024x8 .i32) (harg6 : arg6.IsWhole) (arg7 : Memref sig .tc .vmem S64x8x1024 .i32) (harg7 : arg7.IsWhole) (arg8 : Memref sig .tc .vmem S64x1024 .f32) (harg8 : arg8.IsWhole) (arg9 : Memref sig .tc .vmem S64x1024 .f32) (harg9 : arg9.IsWhole) (hc0 : IsEven i) (hc1 : ¬IsOdd i)
    (x0 : Vec F S1024x4096 .f32) (x1 : Vec F S64x4096 .f32) (x2 : Vec F S1x64 .f32) (s0 s1 : Vec F S64x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare s0 ∗ owns (c : Thread nD τ) arg9 fullShare s1
            ∗ (iprop(owns (c : Thread nD τ) arg1 fullShare x0 ∗ owns (c : Thread nD τ) arg2 fullShare x1 ∗ owns (c : Thread nD τ) arg3 fullShare x2 ∗ owns (c : Thread nD τ) arg4 fullShare (k0_pay45 x0 x1 x2) ∗ owns (c : Thread nD τ) arg5 fullShare (weightsOf (k0_pay2 i s0 s1)) ∗ owns (c : Thread nD τ) arg6 fullShare (indicesOf (k0_pay2 i s0 s1)) ∗ owns (c : Thread nD τ) arg7 fullShare (marksOf (k0_pay2 i s0 s1)) ∗ owns (c : Thread nD τ) arg8 fullShare (logitsT x0 x1 x2) ∗ owns (c : Thread nD τ) arg9 fullShare s1) -∗ K ⟨⟩))
          ⊢ wp frame (wpE (defs₀ (F := F)) Variants.none c none) E (cc0__router_body i arg1 harg1 arg2 harg2 arg3 harg3 arg4 harg4 arg5 harg5 arg6 harg6 arg7 harg7 arg8 harg8 arg9 harg9) K := by
    intro E K
    simp only [cc0__router_body_eq_skeleton]; unfold cc0__router_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hs0, HS0⟩, ⟨%fs1, %hs1, HS1⟩, Hk⟩
    obtain rfl := harg1.eq_unread hf0; obtain rfl := harg2.eq_unread hf1; obtain rfl := harg3.eq_unread hf2
    obtain rfl := harg8.eq_unread hs0; obtain rfl := harg9.eq_unread hs1
    sl_exec (disch := first | sl_exact hc0 | sl_exact hc1)
    sl_step
    iapply Hk
    have hr : (iota .tc S64x1024 32 [0] iota_S64x1024_d0_w32 : IVec S64x1024 32) = rowNumber := rfl
    have e1 := load_whole harg1 x0 ![0, 0] zero2 inb_S1024x4096_S1024x4096_0_0
    have e2 := load_whole harg2 x1 ![0, 0] zero2 inb_S64x4096_S64x4096_0_0
    have e3 := load_whole harg3 x2 ![0, 0] zero2 inb_S1x64_S1x64_0_0
    have e8 := load_whole harg8 s0 ![0, 0] zero2 inb_S64x1024_S64x1024_0_0
    have e9 := load_whole harg9 s1 ![0, 0] zero2 inb_S64x1024_S64x1024_0_0
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      rw [read_store_whole _ _ _ zero2, e1, e2, e3]
    isplitl [H4]
    · iexists _; isplitr; swap; · iexact H4
      ipureintro
      rw [read_store_whole _ _ _ zero2]
      delta run_even.sl.v6 run_even.sl.r run_even.sl.r_1 run_even.sl.r_2 run_even.sl.r_3 run_even.sl.r_4 run_even.sl.r_5 run_even.sl.r_6 run_even.sl.r_7 run_even.sl.r_8 run_even.sl.r_9 run_even.sl.r_10 run_even.sl.r_11 run_even.sl.r_12 run_even.sl.r_13 run_even.sl.r_14 run_even.sl.r_15 run_even.sl.r_16 run_even.sl.r_17 run_even.sl.r_18 run_even.sl.r_19 run_even.sl.r_20
      rw [e8, e9]
      simp only [hr, pay6_eq, pay11_eq, pay16_eq, pay21_eq, pay27_eq, pay32_eq, pay37_eq, pay42_eq, pay3_eq, pay4_eq, pay5_eq, pay7_eq, pay8_eq, pay9_eq, pay10_eq, pay12_eq, pay13_eq, pay14_eq, pay15_eq, pay17_eq, pay18_eq, pay19_eq, pay20_eq, pay22_eq, pay23_eq, pay24_eq, pay25_eq, pay28_eq, pay29_eq, pay30_eq, pay31_eq, pay33_eq, pay34_eq, pay35_eq, pay36_eq, pay38_eq, pay39_eq, pay40_eq, pay41_eq]
      rfl
    isplitl [H5]
    · iexists _; isplitr; swap; · iexact H5
      ipureintro
      rw [read_store_whole _ _ _ zero2]
      delta run_even.sl.v6 run_even.sl.r run_even.sl.r_1 run_even.sl.r_2 run_even.sl.r_3 run_even.sl.r_4 run_even.sl.r_5 run_even.sl.r_6 run_even.sl.r_7 run_even.sl.r_8 run_even.sl.r_9 run_even.sl.r_10 run_even.sl.r_11 run_even.sl.r_12 run_even.sl.r_13 run_even.sl.r_14 run_even.sl.r_15 run_even.sl.r_16 run_even.sl.r_17 run_even.sl.r_18 run_even.sl.r_19 run_even.sl.r_20
      rw [e8, e9]
      simp only [hr, pay6_eq, pay11_eq, pay16_eq, pay21_eq, pay27_eq, pay32_eq, pay37_eq, pay42_eq, pay3_eq, pay4_eq, pay5_eq, pay7_eq, pay8_eq, pay9_eq, pay10_eq, pay12_eq, pay13_eq, pay14_eq, pay15_eq, pay17_eq, pay18_eq, pay19_eq, pay20_eq, pay22_eq, pay23_eq, pay24_eq, pay25_eq, pay28_eq, pay29_eq, pay30_eq, pay31_eq, pay33_eq, pay34_eq, pay35_eq, pay36_eq, pay38_eq, pay39_eq, pay40_eq, pay41_eq]
      rfl
    isplitl [H6]
    · iexists _; isplitr; swap; · iexact H6
      ipureintro
      delta run_even.sl.v6 run_even.sl.r run_even.sl.r_1 run_even.sl.r_2 run_even.sl.r_3 run_even.sl.r_4 run_even.sl.r_5 run_even.sl.r_6 run_even.sl.r_7 run_even.sl.r_8 run_even.sl.r_9 run_even.sl.r_10 run_even.sl.r_11 run_even.sl.r_12 run_even.sl.r_13 run_even.sl.r_14 run_even.sl.r_15 run_even.sl.r_16 run_even.sl.r_17 run_even.sl.r_18 run_even.sl.r_19 run_even.sl.r_20
      rw [e8, e9]
      simp only [hr, pay6_eq, pay11_eq, pay16_eq, pay21_eq, pay27_eq, pay32_eq, pay37_eq, pay42_eq, pay3_eq, pay4_eq, pay5_eq, pay7_eq, pay8_eq, pay9_eq, pay10_eq, pay12_eq, pay13_eq, pay14_eq, pay15_eq, pay17_eq, pay18_eq, pay19_eq, pay20_eq, pay22_eq, pay23_eq, pay24_eq, pay25_eq, pay28_eq, pay29_eq, pay30_eq, pay31_eq, pay33_eq, pay34_eq, pay35_eq, pay36_eq, pay38_eq, pay39_eq, pay40_eq, pay41_eq]
      exact read_slabs _ _ _
    isplitl [HS0]
    · iexists _; isplitr; swap; · iexact HS0
      ipureintro
      rw [read_store_whole _ _ _ zero2, e1, e2, e3]
      exact shapeCast_same _ _
    iexists _; isplitr; swap; · iexact HS1
    ipureintro
    exact harg9.read_unread _

end Cert.KernelIdeal
-- ==== Proof.RunOdd.lean ====
/- The body of the kernel at an odd point: what it leaves in every buffer, named. -/
module

public import proofs.«01_k».proof.Proof.Points

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

set_option maxHeartbeats 1000000 in
/-- The body of the kernel at an odd point, on whole buffers: the inputs' buffers keep their blocks; the logits' buffer gets
    the block's logits and the second scratch buffer their transpose; the other results' buffers get what eight rounds on the
    first scratch buffer's block give; the first scratch buffer is kept. -/
theorem run_odd (c : Dev nD) (i : grid0.Coords) (arg1 : Memref sig .tc .vmem S1024x4096 .f32) (harg1 : arg1.IsWhole) (arg2 : Memref sig .tc .vmem S64x4096 .f32) (harg2 : arg2.IsWhole) (arg3 : Memref sig .tc .vmem S1x64 .f32) (harg3 : arg3.IsWhole) (arg4 : Memref sig .tc .vmem S1024x64 .f32) (harg4 : arg4.IsWhole) (arg5 : Memref sig .tc .vmem S1024x8 .f32) (harg5 : arg5.IsWhole) (arg6 : Memref sig .tc .vmem S1024x8 .i32) (harg6 : arg6.IsWhole) (arg7 : Memref sig .tc .vmem S64x8x1024 .i32) (harg7 : arg7.IsWhole) (arg8 : Memref sig .tc .vmem S64x1024 .f32) (harg8 : arg8.IsWhole) (arg9 : Memref sig .tc .vmem S64x1024 .f32) (harg9 : arg9.IsWhole) (hc0 : ¬IsEven i) (hc1 : IsOdd i)
    (x0 : Vec F S1024x4096 .f32) (x1 : Vec F S64x4096 .f32) (x2 : Vec F S1x64 .f32) (s0 s1 : Vec F S64x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ owns (c : Thread nD τ) arg8 fullShare s0 ∗ owns (c : Thread nD τ) arg9 fullShare s1
            ∗ (iprop(owns (c : Thread nD τ) arg1 fullShare x0 ∗ owns (c : Thread nD τ) arg2 fullShare x1 ∗ owns (c : Thread nD τ) arg3 fullShare x2 ∗ owns (c : Thread nD τ) arg4 fullShare (k0_pay45 x0 x1 x2) ∗ owns (c : Thread nD τ) arg5 fullShare (weightsOf (k0_pay2 i s0 s1)) ∗ owns (c : Thread nD τ) arg6 fullShare (indicesOf (k0_pay2 i s0 s1)) ∗ owns (c : Thread nD τ) arg7 fullShare (marksOf (k0_pay2 i s0 s1)) ∗ owns (c : Thread nD τ) arg8 fullShare s0 ∗ owns (c : Thread nD τ) arg9 fullShare (logitsT x0 x1 x2)) -∗ K ⟨⟩))
          ⊢ wp frame (wpE (defs₀ (F := F)) Variants.none c none) E (cc0__router_body i arg1 harg1 arg2 harg2 arg3 harg3 arg4 harg4 arg5 harg5 arg6 harg6 arg7 harg7 arg8 harg8 arg9 harg9) K := by
    intro E K
    simp only [cc0__router_body_eq_skeleton]; unfold cc0__router_body_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hs0, HS0⟩, ⟨%fs1, %hs1, HS1⟩, Hk⟩
    obtain rfl := harg1.eq_unread hf0; obtain rfl := harg2.eq_unread hf1; obtain rfl := harg3.eq_unread hf2
    obtain rfl := harg8.eq_unread hs0; obtain rfl := harg9.eq_unread hs1
    sl_exec (disch := first | sl_exact hc0 | sl_exact hc1)
    sl_step
    iapply Hk
    have hr : (iota .tc S64x1024 32 [0] iota_S64x1024_d0_w32 : IVec S64x1024 32) = rowNumber := rfl
    have e1 := load_whole harg1 x0 ![0, 0] zero2 inb_S1024x4096_S1024x4096_0_0
    have e2 := load_whole harg2 x1 ![0, 0] zero2 inb_S64x4096_S64x4096_0_0
    have e3 := load_whole harg3 x2 ![0, 0] zero2 inb_S1x64_S1x64_0_0
    have e8 := load_whole harg8 s0 ![0, 0] zero2 inb_S64x1024_S64x1024_0_0
    have e9 := load_whole harg9 s1 ![0, 0] zero2 inb_S64x1024_S64x1024_0_0
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      rw [read_store_whole _ _ _ zero2, e1, e2, e3]
    isplitl [H4]
    · iexists _; isplitr; swap; · iexact H4
      ipureintro
      rw [read_store_whole _ _ _ zero2]
      delta run_odd.sl.v6 run_odd.sl.r run_odd.sl.r_1 run_odd.sl.r_2 run_odd.sl.r_3 run_odd.sl.r_4 run_odd.sl.r_5 run_odd.sl.r_6 run_odd.sl.r_7 run_odd.sl.r_8 run_odd.sl.r_9 run_odd.sl.r_10 run_odd.sl.r_11 run_odd.sl.r_12 run_odd.sl.r_13 run_odd.sl.r_14 run_odd.sl.r_15 run_odd.sl.r_16 run_odd.sl.r_17 run_odd.sl.r_18 run_odd.sl.r_19 run_odd.sl.r_20
      rw [e8, e9]
      simp only [hr, pay6_eq, pay11_eq, pay16_eq, pay21_eq, pay27_eq, pay32_eq, pay37_eq, pay42_eq, pay3_eq, pay4_eq, pay5_eq, pay7_eq, pay8_eq, pay9_eq, pay10_eq, pay12_eq, pay13_eq, pay14_eq, pay15_eq, pay17_eq, pay18_eq, pay19_eq, pay20_eq, pay22_eq, pay23_eq, pay24_eq, pay25_eq, pay28_eq, pay29_eq, pay30_eq, pay31_eq, pay33_eq, pay34_eq, pay35_eq, pay36_eq, pay38_eq, pay39_eq, pay40_eq, pay41_eq]
      rfl
    isplitl [H5]
    · iexists _; isplitr; swap; · iexact H5
      ipureintro
      rw [read_store_whole _ _ _ zero2]
      delta run_odd.sl.v6 run_odd.sl.r run_odd.sl.r_1 run_odd.sl.r_2 run_odd.sl.r_3 run_odd.sl.r_4 run_odd.sl.r_5 run_odd.sl.r_6 run_odd.sl.r_7 run_odd.sl.r_8 run_odd.sl.r_9 run_odd.sl.r_10 run_odd.sl.r_11 run_odd.sl.r_12 run_odd.sl.r_13 run_odd.sl.r_14 run_odd.sl.r_15 run_odd.sl.r_16 run_odd.sl.r_17 run_odd.sl.r_18 run_odd.sl.r_19 run_odd.sl.r_20
      rw [e8, e9]
      simp only [hr, pay6_eq, pay11_eq, pay16_eq, pay21_eq, pay27_eq, pay32_eq, pay37_eq, pay42_eq, pay3_eq, pay4_eq, pay5_eq, pay7_eq, pay8_eq, pay9_eq, pay10_eq, pay12_eq, pay13_eq, pay14_eq, pay15_eq, pay17_eq, pay18_eq, pay19_eq, pay20_eq, pay22_eq, pay23_eq, pay24_eq, pay25_eq, pay28_eq, pay29_eq, pay30_eq, pay31_eq, pay33_eq, pay34_eq, pay35_eq, pay36_eq, pay38_eq, pay39_eq, pay40_eq, pay41_eq]
      rfl
    isplitl [H6]
    · iexists _; isplitr; swap; · iexact H6
      ipureintro
      delta run_odd.sl.v6 run_odd.sl.r run_odd.sl.r_1 run_odd.sl.r_2 run_odd.sl.r_3 run_odd.sl.r_4 run_odd.sl.r_5 run_odd.sl.r_6 run_odd.sl.r_7 run_odd.sl.r_8 run_odd.sl.r_9 run_odd.sl.r_10 run_odd.sl.r_11 run_odd.sl.r_12 run_odd.sl.r_13 run_odd.sl.r_14 run_odd.sl.r_15 run_odd.sl.r_16 run_odd.sl.r_17 run_odd.sl.r_18 run_odd.sl.r_19 run_odd.sl.r_20
      rw [e8, e9]
      simp only [hr, pay6_eq, pay11_eq, pay16_eq, pay21_eq, pay27_eq, pay32_eq, pay37_eq, pay42_eq, pay3_eq, pay4_eq, pay5_eq, pay7_eq, pay8_eq, pay9_eq, pay10_eq, pay12_eq, pay13_eq, pay14_eq, pay15_eq, pay17_eq, pay18_eq, pay19_eq, pay20_eq, pay22_eq, pay23_eq, pay24_eq, pay25_eq, pay28_eq, pay29_eq, pay30_eq, pay31_eq, pay33_eq, pay34_eq, pay35_eq, pay36_eq, pay38_eq, pay39_eq, pay40_eq, pay41_eq]
      exact read_slabs _ _ _
    isplitl [HS0]
    · iexists _; isplitr; swap; · iexact HS0
      ipureintro
      exact harg8.read_unread _
    iexists _; isplitr; swap; · iexact HS1
    ipureintro
    rw [read_store_whole _ _ _ zero2]
    delta run_odd.sl.r_21
    rw [e1, e2, e3]
    exact shapeCast_same _ _

end Cert.KernelIdeal
-- ==== Proof.Data.lean ====
/- The proof data of the kernel's pipeline: what each window's buffer holds after each grid point, and what the two scratch
   buffers carry from a point to the next. A point leaves the logits of its own block of tokens; in the other results'
   buffers, what eight rounds on the logits of the point before give; and in one scratch buffer, by its parity, the
   transposed logits of its own block. Of the first point, which reads a scratch buffer that nothing has stored to, the other
   results' buffers are left unnamed: that point's contents are overwritten at the second point before they are written
   back. -/
module

public import proofs.«01_k».proof.Proof.RunEven
public import proofs.«01_k».proof.Proof.RunOdd
public import Idealize.ShloMosaic.Lib.Pipeline.DatRel
public import Idealize.ShloMosaic.Lib.Pipeline.FrameBody

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The logits of point `t`'s block of tokens. -/
def blockLogits (c : Dev nD) (t : Fin cfg0.N) : FVec F S1024x64 .f32 := k0_pay45 (iblk m c 0 t) (iblk m c 1 t) (iblk m c 2 t)

/-- The same, transposed. -/
def blockLogitsT (c : Dev nD) (t : Fin cfg0.N) : FVec F S64x1024 .f32 := logitsT (iblk m c 0 t) (iblk m c 1 t) (iblk m c 2 t)

/-- What the scratch buffers hold after point `u`: the buffer of its parity the transposed logits of its block, the other
    one anything. -/
def held (c : Dev nD) (u : Fin cfg0.N) : sProp 𝕄 :=
  if u.val % 2 = 0 then
    iprop((owns (c : Thread nD τ) scratchA fullShare (blockLogitsT m c u) ∗ (∃ d, owns (c : Thread nD τ) scratchB fullShare d))
      ∗ (∃ r, prngReg c r))
  else
    iprop(((∃ d, owns (c : Thread nD τ) scratchA fullShare d) ∗ owns (c : Thread nD τ) scratchB fullShare (blockLogitsT m c u))
      ∗ (∃ r, prngReg c r))

/-- The invariant: at the start what the launch hands over, then what the last point left. -/
def carried (c : Dev nD) : Fin (cfg0.N + 1) → sProp 𝕄 := Fin.cases (Pipeline.ΦA spec0 c) (held m c)

theorem carried_zero (c : Dev nD) : carried m c 0 = Pipeline.ΦA spec0 c := rfl
theorem carried_succ (c : Dev nD) (t : Fin cfg0.N) : carried m c t.succ = held m c t := rfl

/-- After any point the scratch buffers hold something, and the generator is at some state. -/
theorem held_forget (c : Dev nD) (u : Fin cfg0.N) : held m c u ⊢ (Pipeline.ΦA spec0 c : sProp 𝕄) := by
  unfold held
  rw [start_eq]
  split
  · iintro ⟨⟨HA, HB⟩, Hg⟩
    isplitl [HA HB]
    · isplitl [HA]; · iexists _; iexact HA
      iexact HB
    iexact Hg
  · iintro ⟨⟨HA, HB⟩, Hg⟩
    isplitl [HA HB]
    · isplitl [HA]; · iexact HA
      iexists _; iexact HB
    iexact Hg

/-- A point finds both scratch buffers at some contents, and the one it reads at the transposed logits of the point before,
    where there is one. -/
theorem carried_finds (c : Dev nD) (t : Fin cfg0.N) :
    carried m c t.castSucc ⊢ (iprop(∃ a b, ⌜∀ u : Fin cfg0.N, u.val + 1 = t.val → k0_pay2 (grid0.coords t) a b = blockLogitsT m c u⌝
      ∗ (owns (c : Thread nD τ) scratchA fullShare a ∗ owns (c : Thread nD τ) scratchB fullShare b) ∗ (∃ r, prngReg c r)) : sProp 𝕄) := by
  by_cases h0 : t.val = 0
  · have e : t.castSucc = 0 := Fin.ext h0
    rw [e, carried_zero, start_eq]
    iintro ⟨⟨⟨%a, HA⟩, ⟨%b, HB⟩⟩, Hg⟩
    iexists a, b
    isplitr
    · ipureintro; intro u hu; omega
    isplitl [HA HB]
    · isplitl [HA]; · iexact HA
      iexact HB
    iexact Hg
  · have hlt : t.val - 1 < cfg0.N := by have := t.isLt; omega
    have e : t.castSucc = (⟨t.val - 1, hlt⟩ : Fin cfg0.N).succ := Fin.ext (by show t.val = t.val - 1 + 1; omega)
    have hu : ∀ u : Fin cfg0.N, u.val + 1 = t.val → u = ⟨t.val - 1, hlt⟩ := fun u h => Fin.ext (by show u.val = t.val - 1; omega)
    rw [e, carried_succ]
    unfold held
    split
    · rename_i hp
      have hodd : t.val % 2 = 1 := by
        have : (t.val - 1) % 2 = 0 := hp
        omega
      iintro ⟨⟨HA, ⟨%b, HB⟩⟩, Hg⟩
      iexists _, b
      isplitr
      · ipureintro; intro u h; rw [reads_odd t hodd, hu u h]
      isplitl [HA HB]
      · isplitl [HA]; · iexact HA
        iexact HB
      iexact Hg
    · rename_i hp
      have heven : t.val % 2 = 0 := by
        have : ¬(t.val - 1) % 2 = 0 := hp
        omega
      iintro ⟨⟨⟨%a, HA⟩, HB⟩, Hg⟩
      iexists a, _
      isplitr
      · ipureintro; intro u h; rw [reads_even t heven, hu u h]
      isplitl [HA HB]
      · isplitl [HA]; · iexact HA
        iexact HB
      iexact Hg

/-- The windows held to a predicate: the results'. -/
def isResult : Fin 7 → Bool := fun w => w.val == 3 || w.val == 4 || w.val == 5 || w.val == 6

/-- What a point leaves in a result's buffer: its block's logits; and what eight rounds on the point before's give. -/
def leaves (c : Dev nD) (w : Fin cfg0.W) (t : Fin cfg0.N) (X : (cfg0.win w).block.Idx → Elt F (cfg0.win w).elt) : Prop :=
  match w, X with
  | ⟨3, _⟩, X => X = blockLogits m c t
  | ⟨4, _⟩, X => ∀ u : Fin cfg0.N, u.val + 1 = t.val → X = weightsOf (blockLogitsT m c u)
  | ⟨5, _⟩, X => ∀ u : Fin cfg0.N, u.val + 1 = t.val → X = indicesOf (blockLogitsT m c u)
  | ⟨6, _⟩, X => ∀ u : Fin cfg0.N, u.val + 1 = t.val → X = marksOf (blockLogitsT m c u)
  | _, _ => True

/-- The proof data: the inputs' buffers keep their blocks. -/
def data (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ := carried m c
  q _ := fullShare
  owed _ := 0

theorem data_A (c : Dev nD) (w : Fin cfg0.W) : (data m c).A w = V m c (Pipeline.arrRef spec0 w) := by dsimp only [data]
theorem data_Φ (c : Dev nD) : (data m c).Φ = carried m c := by dsimp only [data]
theorem data_after0 (c : Dev nD) (t : Fin cfg0.N) : (data m c).after 0 t = iblk m c 0 t := by dsimp only [data]
theorem data_after1 (c : Dev nD) (t : Fin cfg0.N) : (data m c).after 1 t = iblk m c 1 t := by dsimp only [data]
theorem data_after2 (c : Dev nD) (t : Fin cfg0.N) : (data m c).after 2 t = iblk m c 2 t := by dsimp only [data]

theorem data_before0 (c : Dev nD) (t : Fin cfg0.N) (d) : (data m c).before 0 t d = iblk m c 0 t :=
  before0_0_of m (data m c) (data_A m c 0) (data_after0 m c) t d
theorem data_before1 (c : Dev nD) (t : Fin cfg0.N) (d) : (data m c).before 1 t d = iblk m c 1 t :=
  before0_1_of m (data m c) (data_A m c 1) (data_after1 m c) t d
theorem data_before2 (c : Dev nD) (t : Fin cfg0.N) (d) : (data m c).before 2 t d = iblk m c 2 t :=
  before0_2_of m (data m c) (data_A m c 2) (data_after2 m c) t d

/-- What the body is called with at point `t`, the results' buffers at anything. -/
def bodyPre (c : Dev nD) (t : Fin cfg0.N) : sProp 𝕄 :=
  iprop(carried m c t.castSucc ∗ (data m c).owesAt () t.castSucc
    ∗ (∃ d, owns (c : Thread nD τ) (bufX t) fullShare ((data m c).before 0 t d))
    ∗ (∃ d, owns (c : Thread nD τ) (bufW t) fullShare ((data m c).before 1 t d))
    ∗ (∃ d, owns (c : Thread nD τ) (bufB t) fullShare ((data m c).before 2 t d))
    ∗ (∃ d, ⌜((data m c).toRRel isResult (leaves m c)).Finds 3 t d⌝ ∗ owns (c : Thread nD τ) (bufLogits t) fullShare d)
    ∗ (∃ d, ⌜((data m c).toRRel isResult (leaves m c)).Finds 4 t d⌝ ∗ owns (c : Thread nD τ) (bufWeights t) fullShare d)
    ∗ (∃ d, ⌜((data m c).toRRel isResult (leaves m c)).Finds 5 t d⌝ ∗ owns (c : Thread nD τ) (bufIndices t) fullShare d)
    ∗ (∃ d, ⌜((data m c).toRRel isResult (leaves m c)).Finds 6 t d⌝ ∗ owns (c : Thread nD τ) (bufMarks t) fullShare d))

/-- What it returns. -/
def bodyPost (c : Dev nD) (t : Fin cfg0.N) : sProp 𝕄 :=
  iprop(carried m c t.succ ∗ (data m c).owesAt () t.succ
    ∗ owns (c : Thread nD τ) (bufX t) fullShare ((data m c).after 0 t)
    ∗ owns (c : Thread nD τ) (bufW t) fullShare ((data m c).after 1 t)
    ∗ owns (c : Thread nD τ) (bufB t) fullShare ((data m c).after 2 t)
    ∗ (∃ X, ⌜leaves m c 3 t X⌝ ∗ owns (c : Thread nD τ) (bufLogits t) fullShare X)
    ∗ (∃ X, ⌜leaves m c 4 t X⌝ ∗ owns (c : Thread nD τ) (bufWeights t) fullShare X)
    ∗ (∃ X, ⌜leaves m c 5 t X⌝ ∗ owns (c : Thread nD τ) (bufIndices t) fullShare X)
    ∗ (∃ X, ⌜leaves m c 6 t X⌝ ∗ owns (c : Thread nD τ) (bufMarks t) fullShare X))

set_option maxHeartbeats 1600000 in
/-- The body at any point, by the point's parity. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [data_before0, data_before1, data_before2]
  rw [show (data m c).owesAt () t.succ = (data m c).owesAt () t.castSucc from rfl, data_after0, data_after1, data_after2,
    carried_succ]
  refine (sep_mono (carried_finds m c t) .rfl).trans ?_
  by_cases h0 : t.val % 2 = 0
  · have h1 : ¬t.val % 2 = 1 := by omega
    iintro ⟨⟨%a, %b, %hab, ⟨HS0, HS1⟩, Hg⟩, Ho, ⟨%d0, H0⟩, ⟨%d1, H1⟩, ⟨%d2, H2⟩, ⟨%d3, -, H3⟩, ⟨%d4, -, H4⟩, ⟨%d5, -, H5⟩, ⟨%d6, -, H6⟩⟩
    iapply ((run_even c (grid0.coords t) _ _ _ _ _ _ _ _ _ _ _ _ _ _ _ _ _ _ ((isEven_iff t).mpr h0) (fun h => h1 ((isOdd_iff t).mp h)) (iblk m c 0 t) (iblk m c 1 t) (iblk m c 2 t) a b) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · unfold held
      rw [if_pos h0]
      isplitl [HS0 HS1]
      · isplitl [HS0]
        · iexact HS0
        iexists _; iexact HS1
      iexact Hg
    isplitl [Ho]; · iexact Ho
    isplitl [H0]; · iexact H0
    isplitl [H1]; · iexact H1
    isplitl [H2]; · iexact H2
    isplitl [H3]
    · iexists _; isplitr; swap; · iexact H3
      ipureintro; exact rfl
    isplitl [H4]
    · iexists _; isplitr; swap; · iexact H4
      ipureintro; exact fun u hu => congrArg weightsOf (hab u hu)
    isplitl [H5]
    · iexists _; isplitr; swap; · iexact H5
      ipureintro; exact fun u hu => congrArg indicesOf (hab u hu)
    iexists _; isplitr; swap; · iexact H6
    ipureintro; exact fun u hu => congrArg marksOf (hab u hu)
  · have h1 : t.val % 2 = 1 := by omega
    iintro ⟨⟨%a, %b, %hab, ⟨HS0, HS1⟩, Hg⟩, Ho, ⟨%d0, H0⟩, ⟨%d1, H1⟩, ⟨%d2, H2⟩, ⟨%d3, -, H3⟩, ⟨%d4, -, H4⟩, ⟨%d5, -, H5⟩, ⟨%d6, -, H6⟩⟩
    iapply ((run_odd c (grid0.coords t) _ _ _ _ _ _ _ _ _ _ _ _ _ _ _ _ _ _ (fun h => h0 ((isEven_iff t).mp h)) ((isOdd_iff t).mpr h1) (iblk m c 0 t) (iblk m c 1 t) (iblk m c 2 t) a b) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · unfold held
      rw [if_neg h0]
      isplitl [HS0 HS1]
      · isplitl [HS0]
        · iexists _; iexact HS0
        iexact HS1
      iexact Hg
    isplitl [Ho]; · iexact Ho
    isplitl [H0]; · iexact H0
    isplitl [H1]; · iexact H1
    isplitl [H2]; · iexact H2
    isplitl [H3]
    · iexists _; isplitr; swap; · iexact H3
      ipureintro; exact rfl
    isplitl [H4]
    · iexists _; isplitr; swap; · iexact H4
      ipureintro; exact fun u hu => congrArg weightsOf (hab u hu)
    isplitl [H5]
    · iexists _; isplitr; swap; · iexact H5
      ipureintro; exact fun u hu => congrArg indicesOf (hab u hu)
    iexists _; isplitr; swap; · iexact H6
    ipureintro; exact fun u hu => congrArg marksOf (hab u hu)

/-- The row of the table of bodies at point `t`'s buffers is the body at the point. -/
theorem body_row (t : Fin cfg0.N) : defs₀ (F := F) .tc cfg0.body (cfg0.bodyArgs t (cfg0.slots t)) = bodyAt0 t := by
  unfold defs₀; rw [Defs.onTc_tc]

/-- The body obligation, at every point. -/
theorem body_obligation (c : Dev nD) :
    Pipeline.BodyObligationRel (data (F := F) m c) (defs₀ (F := F)) Variants.none () Set.univ isResult (leaves m c) := fun t => by
  rw [bigSep_W0, bigSep_W0, body_row]
  exact triple_restated (sound_body m c t) rfl .rfl fun _ => .rfl

end Cert.KernelIdeal
-- ==== Proof.Run.lean ====
/- The kernel's run: from any memory it ends, its arguments unchanged, its results' arrays made of what its points left, every
   counter back at zero. -/
module

public import proofs.«01_k».proof.Proof.Data
public import Idealize.ShloMosaic.Lib.Pipeline.ArrRel
public import Idealize.ShloMosaic.Lib.Claim

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.KernelIdeal.Gen

variable {F : FTy → Type} [FloatOps F]
variable (m : (ℓ : Loc nD τ sig) → Buf (Elt F) ℓ) (ρ : Dev nD → PrngReg)

/-- The data, the results' windows held to their predicates. -/
abbrev rdata (c : Dev nD) := (data (F := F) m c).toRRel isResult (leaves m c)

set_option backward.isDefEq.respectTransparency.types false in
/-- The kernel's run, from any memory with zero counters. -/
theorem run : θ_run defs (onTc (τ := τ) (main (F := F))) (s₀ m ρ)
    (fun r => Pipeline.RDat.FramePost (cfgs 0) (rdata m) (V m) r ∧ r.2.sem = fun _ => 0) :=
  Pipeline.RDat.θ_run_frame_track cfgs (0 : Fin 1) launch0 defs₀ Variants.none (rdata m) m ρ main
    (hbody := fun c => (body_obligation m c).toRRel) (hshare := fun c => (data m c).share_full fun _ => rfl)
    (howed := fun _ _ => rfl) (V := V m) (hmain := hmain m Variants.none) (hA := data_A m)
    (hin := fun _ => .rfl) (hout := fun c => held_forget m c (Fin.last 32))
    (Q' := _) (hQ' := fun _ h => h)

/-- What the results' arrays hold at the end, and what is unchanged. -/
theorem run_arrays : θ_run defs (onTc (τ := τ) (main (F := F))) ⟨m, fun _ => 0, ρ⟩ (fun r => ∀ c : Dev nD,
    (∃ after : (w : Fin cfg0.W) → Fin cfg0.N → (cfg0.win w).block.Idx → Elt F (cfg0.win w).elt,
      (∀ w u, (cfg0.win w).flush u = true → (rdata m c).Leaves w u (after w u))
      ∧ ∀ w, r.2.mem ((spec0 w).arr.view.loc c) = ((rdata m c).withAfter after).arrAt w cfg0.N)
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :=
  (θ_run defs _ _).mono (fun _ h c => ⟨Pipeline.RDat.FramePost.exists_exact h.1 c,
    ⟨(Pipeline.RDat.FramePost.arr_in h.1 c 0 rfl).trans ((data_A m c 0).trans (V_main_arg0 m c)),
      (Pipeline.RDat.FramePost.arr_in h.1 c 1 rfl).trans ((data_A m c 1).trans (V_main_arg1 m c)),
      ((h.1 c).2 main_arg2 (Pipeline.mem_restRefs_of main_arg2 (by decide) (by decide))).trans (V_main_arg2 m c)⟩⟩) (run m ρ)

/-- The frame: the run ends, its arguments unchanged, every counter back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and ((θ_run defs _ _).mono (fun _ h c => (h c).2) (run_arrays m ρ)) ((θ_run defs _ _).mono (fun _ h => h.2) (run m ρ))

end Cert.KernelIdeal
-- ==== Proof.KernelFrame.lean ====
/- The frame of the kernel itself. Its text and its idealization's are the same, for the idealization rewrites no operation; so what
   `Run` proves of the one, at any reading of the floats, is proved of the other. -/
module

public import proofs.«01_k».proof.Proof.Gen.Kernel
public import proofs.«01_k».proof.Proof.Run

@[expose] public section

set_option maxRecDepth 16384

noncomputable section

namespace Cert.Kernel

open Idealize.ShloMosaic Idealize.ShloMosaic.TcCoe Idealize.SL.Sem
open Cert.Kernel.Gen

variable {F : FTy → Type} [FloatOps F]

/-- The two body tables are the same. -/
theorem bodies_same : defs₀ (F := F) = Cert.KernelIdeal.defs₀ (F := F) := by
  funext p ℓ a
  match p with
  | .tc =>
    match ℓ, a with
    | ⟨0, _⟩, (t, s) => rfl
    | ⟨n + 1, h⟩, _ => exact absurd h (by omega)
  | .scScalar _ => rfl
  | .scVector _ _ => rfl

/-- So are the tables with the pipeline's own labels. -/
theorem defs_same : defs (F := F) = Cert.KernelIdeal.defs (F := F) := congrArg (Pipeline.defs pcfgs) bodies_same

/-- The frame: the run ends, its arguments unchanged, every counter back at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_same]
  exact Cert.KernelIdeal.frame (F := F) m ρ

end Cert.Kernel
-- ==== Proof.Column.lean ====
/- One token's 64 logits as a column of extended reals: how many exceed each, the column sorted, and eight rounds of «take the
   greatest, strike out where it is attained». Where the eight greatest are finite and each is attained once, round `r` takes the
   entry that the sorted column has at place `r`. -/
module

public import Idealize.ShloMosaic.Lib.SortFacts
public import Idealize.ShloMosaic.PureOps.Ideal

@[expose] public section

noncomputable section

namespace Cert.Column

open Idealize.ShloMosaic

variable (v : Fin 64 → EReal)

/-- How many entries exceed entry `e`. -/
def above (e : Fin 64) : ℕ := (Finset.univ.filter fun f => v e < v f).card

/-- How many entries equal entry `e`, itself among them. -/
def same (e : Fin 64) : ℕ := (Finset.univ.filter fun f => v f = v e).card

/-- Every entry either has eight above it, or is finite and equal to no other. -/
def Separated : Prop := ∀ e, 8 ≤ above v e ∨ (same v e = 1 ∧ v e ≠ ⊤ ∧ v e ≠ ⊥)

/-- The place in the column of the entry that comes at place `r` when the column is sorted, greatest first and equal entries in
    their order. -/
def place (r : Fin 64) : Fin 64 := sortedFrom (fun a b => decide (v b < v a)) r

/-- The greatest entry. -/
def greatest : EReal := Finset.univ.sup v

/-- The column with the entries equal to the greatest struck out. -/
def strikeOut : Fin 64 → EReal := fun e => if v e = greatest v then ⊥ else v e

/-- The column after `r` rounds. -/
def rounds : ℕ → Fin 64 → EReal
  | 0 => v
  | r + 1 => strikeOut (rounds r)

theorem rounds_zero : rounds v 0 = v := rfl
theorem rounds_succ (r : ℕ) : rounds v (r + 1) = strikeOut (rounds v r) := rfl

theorem place_injective : Function.Injective (place v) := sortedFrom_injective _
theorem place_surjective : Function.Surjective (place v) := sortedFrom_surjective _

/-- The sorted column does not increase. -/
theorem place_antitone {i j : Fin 64} (h : i < j) : v (place v j) ≤ v (place v i) := by
  have := sortedFrom_noInversion (fun a b => decide (v b < v a)) (fun a b => decide (v b < v a))
    (fun a b hab => by
      have hab := of_decide_eq_true hab
      exact decide_eq_false hab.le.not_gt)
    (fun _ _ hab => hab)
    (fun a b c hab hbc => by
      have hab := of_decide_eq_false hab
      have hbc := of_decide_eq_false hbc
      exact decide_eq_false (not_lt.mpr ((not_lt.mp hab).trans (not_lt.mp hbc)))) i j h
  exact not_lt.mp (of_decide_eq_false this)

/-- The column with the entries that fewer than `r` exceed struck out. -/
def struck (r : ℕ) : Fin 64 → EReal := fun e => if above v e < r then ⊥ else v e

variable {v}

theorem eq_of_same {e f : Fin 64} (h : same v e = 1) (hf : v f = v e) : f = e := by
  obtain ⟨x, hx⟩ := Finset.card_eq_one.mp h
  have h1 : f ∈ Finset.univ.filter fun f => v f = v e := by simp [hf]
  have h2 : e ∈ Finset.univ.filter fun f => v f = v e := by simp
  rw [hx, Finset.mem_singleton] at h1 h2
  rw [h1, h2]

theorem above_lt_of_lt {e f : Fin 64} (h : v e < v f) : above v f < above v e := by
  refine Finset.card_lt_card ⟨fun x hx => ?_, fun hs => ?_⟩
  · simp only [Finset.mem_filter, Finset.mem_univ, true_and] at hx ⊢
    exact h.trans hx
  · have := hs (show f ∈ Finset.univ.filter fun x => v e < v x by simp [h])
    simp at this

theorem above_congr {e f : Fin 64} (h : v e = v f) : above v e = above v f := by unfold above; rw [h]

/-- At most `r` entries exceed the one at place `r`. -/
theorem above_place_le (r : Fin 64) : above v (place v r) ≤ r.val := by
  have hsub : (Finset.univ.filter fun f => v (place v r) < v f) ⊆ (Finset.univ.filter fun j : Fin 64 => j < r).image (place v) := by
    intro f hf
    simp only [Finset.mem_filter, Finset.mem_univ, true_and] at hf
    obtain ⟨j, rfl⟩ := place_surjective v f
    refine Finset.mem_image_of_mem _ ?_
    simp only [Finset.mem_filter, Finset.mem_univ, true_and]
    by_contra hj
    rcases (not_lt.mp hj).eq_or_lt with rfl | hlt
    · exact lt_irrefl _ hf
    · exact absurd hf (not_lt.mpr (place_antitone v hlt))
  refine (Finset.card_le_card hsub).trans (Finset.card_image_le.trans ?_)
  have : (Finset.univ.filter fun j : Fin 64 => j < r) = Finset.Iio r := by ext; simp
  rw [this, Fin.card_Iio]

variable (hv : Separated v)
include hv

/-- The first eight entries of the sorted column are each attained once and finite. -/
theorem place_clear {r : Fin 64} (hr : r.val < 8) :
    same v (place v r) = 1 ∧ v (place v r) ≠ ⊤ ∧ v (place v r) ≠ ⊥ := by
  rcases hv (place v r) with h | h
  · have := above_place_le (v := v) r; omega
  · exact h

/-- Exactly `r` entries exceed the one at place `r`, for `r < 8`. -/
theorem above_place {r : Fin 64} (hr : r.val < 8) : above v (place v r) = r.val := by
  refine le_antisymm (above_place_le r) ?_
  have hsub : (Finset.univ.filter fun j : Fin 64 => j < r).image (place v) ⊆ Finset.univ.filter fun f => v (place v r) < v f := by
    intro f hf
    obtain ⟨j, hj, rfl⟩ := Finset.mem_image.mp hf
    simp only [Finset.mem_filter, Finset.mem_univ, true_and] at hj ⊢
    refine lt_of_le_of_ne (place_antitone v hj) fun he => ?_
    exact hj.ne (place_injective v (eq_of_same (place_clear hv hr).1 he.symm))
  have := Finset.card_le_card hsub
  rw [Finset.card_image_of_injective _ (place_injective v)] at this
  have e : (Finset.univ.filter fun j : Fin 64 => j < r) = Finset.Iio r := by ext; simp
  rw [e, Fin.card_Iio] at this
  exact this

/-- An entry that `r < 8` entries exceed is the one at place `r`. -/
theorem eq_place {r : Fin 64} (hr : r.val < 8) {e : Fin 64} (he : above v e = r.val) : e = place v r := by
  rcases lt_trichotomy (v e) (v (place v r)) with h | h | h
  · have := above_lt_of_lt h; rw [above_place hv hr] at this; omega
  · exact eq_of_same (place_clear hv hr).1 h
  · have := above_lt_of_lt h; rw [above_place hv hr] at this; omega

theorem struck_place {r : Fin 64} (hr : r.val < 8) : struck v r.val (place v r) = v (place v r) :=
  if_neg (by rw [above_place hv hr]; exact lt_irrefl _)

/-- Of the column with the entries that fewer than `r` exceed struck out, the greatest is the one at place `r`. -/
theorem greatest_struck {r : Fin 64} (hr : r.val < 8) : greatest (struck v r.val) = v (place v r) := by
  refine le_antisymm (Finset.sup_le fun e _ => ?_) ?_
  · unfold struck
    split
    · exact bot_le
    · rename_i h
      by_contra hlt
      have := above_lt_of_lt (not_le.mp hlt)
      rw [above_place hv hr] at this
      exact h this
  · exact le_trans (struck_place hv hr).ge (Finset.le_sup (Finset.mem_univ (place v r)))

/-- … and it is attained there alone. -/
theorem struck_eq_iff {r : Fin 64} (hr : r.val < 8) (e : Fin 64) : struck v r.val e = v (place v r) ↔ e = place v r := by
  constructor
  · intro h
    unfold struck at h
    split at h
    · exact absurd h.symm (place_clear hv hr).2.2
    · exact eq_of_same (place_clear hv hr).1 h
  · intro h
    rw [h]
    exact struck_place hv hr

/-- Striking the greatest out after `r < 8` such rounds strikes out the next. -/
theorem strikeOut_struck {r : Fin 64} (hr : r.val < 8) : strikeOut (struck v r.val) = struck v (r.val + 1) := by
  funext e
  unfold strikeOut
  rw [greatest_struck hv hr]
  by_cases he : e = place v r
  · rw [if_pos ((struck_eq_iff hv hr e).mpr he), he]
    exact (if_pos (by rw [above_place hv hr]; exact Nat.lt_succ_self _)).symm
  · rw [if_neg fun h => he ((struck_eq_iff hv hr e).mp h)]
    have hne : above v e ≠ r.val := fun h => he (eq_place hv hr h)
    unfold struck
    by_cases h : above v e < r.val
    · rw [if_pos h, if_pos (Nat.lt_succ_of_lt h)]
    · rw [if_neg h, if_neg (by omega)]

/-- After `r ≤ 8` rounds the entries that fewer than `r` exceed are struck out, and no others. -/
theorem rounds_eq : ∀ r : ℕ, r ≤ 8 → rounds v r = struck v r
  | 0, _ => by funext e; exact (if_neg (Nat.not_lt_zero _)).symm
  | r + 1, hr => by
    rw [rounds_succ, rounds_eq r (Nat.le_of_succ_le hr)]
    exact strikeOut_struck hv (r := ⟨r, Nat.lt_of_lt_of_le hr (by decide)⟩) hr

/-- Round `r < 8` takes the entry at place `r` of the sorted column … -/
theorem greatest_rounds {r : Fin 64} (hr : r.val < 8) : greatest (rounds v r.val) = v (place v r) := by
  rw [rounds_eq hv r.val hr.le]; exact greatest_struck hv hr

/-- … and finds it there alone. -/
theorem rounds_eq_greatest_iff {r : Fin 64} (hr : r.val < 8) (e : Fin 64) :
    rounds v r.val e = greatest (rounds v r.val) ↔ e = place v r := by
  rw [greatest_rounds hv hr, rounds_eq hv r.val hr.le]; exact struck_eq_iff hv hr e

end Cert.Column
-- ==== Proof.Softmax.lean ====
/- The softmax of one token's logits, and of its eight greatest alone. Exponentials shifted by the greatest logit keep the order of
   the logits; and the shares of the eight greatest in the softmax, divided by their own sum, are the softmax of those eight. -/
module

public import proofs.«01_k».proof.Proof.Column

@[expose] public section

noncomputable section

namespace Cert.Column

open Idealize.ShloMosaic

variable (v : Fin 64 → EReal)

/-- The exponential of an entry shifted by the greatest. -/
def shifted (e : Fin 64) : EReal := Ideal.exp (v e - greatest v)

/-- The softmax of the column. -/
def share (e : Fin 64) : EReal := Ideal.div (shifted v e) (∑ f, shifted v f)

/-- A place among the first eight as a place in the column. -/
def wide (j : Fin 8) : Fin 64 := ⟨j.val, Nat.lt_of_lt_of_le j.isLt (by decide)⟩

theorem wide_lt (j : Fin 8) : (wide j).val < 8 := j.isLt

/-- The weight at place `j`: the softmax's share there over the sum of the first eight places' shares. -/
def weight (j : Fin 8) : EReal := Ideal.div (share v (place v (wide j))) (∑ s : Fin 8, share v (place v (wide s)))

/-- The real number that the exponential of a shifted entry is. -/
def real (μ : ℝ) (x : EReal) : ℝ := if x = ⊥ then 0 else Real.exp (x.toReal - μ)

theorem exp_sub_eq {μ : ℝ} {x : EReal} (hx : x ≠ ⊤) : Ideal.exp (x - (μ : EReal)) = (real μ x : EReal) := by
  induction x with
  | bot => simp [real]
  | top => exact absurd rfl hx
  | coe x => rw [← EReal.coe_sub, Ideal.exp_coe]; simp [real]

theorem real_nonneg (μ : ℝ) (x : EReal) : 0 ≤ real μ x := by
  unfold real; split
  · exact le_rfl
  · exact (Real.exp_pos _).le

theorem real_pos {μ : ℝ} {x : EReal} (hx : x ≠ ⊥) : 0 < real μ x := by
  unfold real; rw [if_neg hx]; exact Real.exp_pos _

/-- It increases strictly with the entry. -/
theorem real_lt_real {μ : ℝ} {x y : EReal} (hx : x ≠ ⊤) (hy : y ≠ ⊤) : real μ x < real μ y ↔ x < y := by
  induction x with
  | top => exact absurd rfl hx
  | bot =>
    induction y with
    | top => exact absurd rfl hy
    | bot => simp
    | coe y => simp [real, Real.exp_pos]
  | coe x =>
    induction y with
    | top => exact absurd rfl hy
    | bot => simpa [real] using (Real.exp_pos _).le
    | coe y => simp [real]

theorem coe_sum {ι : Type} [Fintype ι] (f : ι → ℝ) : ∑ i, (f i : EReal) = ((∑ i, f i : ℝ) : EReal) :=
  (map_sum (⟨⟨fun r : ℝ => (r : EReal), rfl⟩, EReal.coe_add⟩ : ℝ →+ EReal) f Finset.univ).symm

theorem div_coe_coe {a b : ℝ} (hb : b ≠ 0) : Ideal.div (a : EReal) (b : EReal) = ((a / b : ℝ) : EReal) := by
  rw [Ideal.div_coe hb, ← EReal.coe_mul, mul_one_div]

theorem place_wide_zero_eq : place v (wide 0) = place v 0 := rfl

variable {v}
variable (hv : Separated v)
include hv

theorem greatest_eq : greatest v = v (place v (wide 0)) := greatest_rounds hv (wide_lt 0)

/-- The greatest entry is a real number. -/
theorem greatest_coe : greatest v = ((greatest v).toReal : EReal) := by
  have h := place_clear hv (wide_lt 0)
  rw [← greatest_eq hv] at h
  exact (EReal.coe_toReal h.2.1 h.2.2).symm

theorem ne_top (e : Fin 64) : v e ≠ ⊤ := by
  have h := (place_clear hv (wide_lt 0)).2.1
  rw [← greatest_eq hv] at h
  exact fun he => h (top_le_iff.mp (he ▸ Finset.le_sup (f := v) (Finset.mem_univ e)))

theorem shifted_eq (e : Fin 64) : shifted v e = (real (greatest v).toReal (v e) : EReal) := by
  unfold shifted
  conv_lhs => rw [greatest_coe hv]
  exact exp_sub_eq (ne_top hv e)

theorem total_pos : 0 < ∑ f, real (greatest v).toReal (v f) :=
  Finset.sum_pos' (fun _ _ => real_nonneg _ _) ⟨place v (wide 0), Finset.mem_univ _, real_pos (place_clear hv (wide_lt 0)).2.2⟩

theorem share_eq (e : Fin 64) :
    share v e = ((real (greatest v).toReal (v e) / ∑ f, real (greatest v).toReal (v f) : ℝ) : EReal) := by
  unfold share
  simp only [shifted_eq hv]
  rw [coe_sum, div_coe_coe (total_pos hv).ne']

/-- The softmax keeps the order of the logits. -/
theorem share_lt_share (e f : Fin 64) : share v e < share v f ↔ v e < v f := by
  rw [share_eq hv, share_eq hv, EReal.coe_lt_coe_iff, div_lt_div_iff_of_pos_right (total_pos hv),
    real_lt_real (ne_top hv e) (ne_top hv f)]

/-- So the softmax sorts as the logits do. -/
theorem place_share (r : Fin 64) : sortedFrom (fun a b => decide (share v b < share v a)) r = place v r := by
  unfold place
  simp only [share_lt_share hv]

/-- The weight at place `j` is the softmax of the eight greatest logits alone. -/
theorem weight_eq (j : Fin 8) :
    weight v j = Ideal.div (Ideal.exp (v (place v (wide j)) - v (place v (wide 0))))
      (∑ s : Fin 8, Ideal.exp (v (place v (wide s)) - v (place v (wide 0)))) := by
  have hp : 0 < ∑ s : Fin 8, real (greatest v).toReal (v (place v (wide s))) :=
    Finset.sum_pos (fun s _ => real_pos (place_clear hv (wide_lt s)).2.2) Finset.univ_nonempty
  have ht := total_pos hv
  unfold weight
  simp only [share_eq hv, coe_sum]
  rw [← Finset.sum_div, div_coe_coe (div_pos hp ht).ne', div_div_div_cancel_right₀ ht.ne']
  rw [← greatest_eq hv]
  have : ∀ s : Fin 8, Ideal.exp (v (place v (wide s)) - greatest v) = (real (greatest v).toReal (v (place v (wide s))) : EReal) :=
    fun s => shifted_eq hv _
  simp only [this]
  rw [coe_sum, div_coe_coe hp.ne']

end Cert.Column
-- ==== Proof.Values.lean ====
/- The rounds on a transposed block of logits read at one token, over the extended reals: they are the rounds on that token's column. -/
module

public import proofs.«01_k».proof.Proof.Block
public import proofs.«01_k».proof.Proof.Softmax
public import Idealize.ShloMosaic.Lib.ValueIdx
public import Idealize.ShloMosaic.Lib.ValueLayout
public import Idealize.ShloMosaic.Lib.Pipeline.ValueKit
public import Idealize.ShloMosaic.PureOps.Ideal.Laws

@[expose] public section

set_option maxRecDepth 16384

noncomputable section

namespace Cert.KernelIdeal

open Idealize.ShloMosaic hiding ix1 ix2 ix3
open Idealize.ShloMosaic.ValueIdx
open Cert.KernelIdeal.Gen Cert.Column

/-- The column of a transposed block at token `r`. -/
def column (l : FVec Ideal S64x1024 .f32) (r : Fin 1024) : Fin 64 → EReal := fun e => l (ix2 e r)

theorem ofBits_negInf : Ideal.ofBits .f32 0xFF800000#32 = ⊥ := by simp [Ideal.ofBits, Ideal.ieee]

/-- The row of maxima holds each column's greatest entry. -/
theorem maxRow_apply (l : FVec Ideal S64x1024 .f32) (r : Fin 1024) :
    maxRow l (ix2 (0 : Fin 1) r) = greatest (column l r) := by
  unfold maxRow
  refine (shapeCast_a_1a_apply _ shapeCasts_S1024_S1x1024 0 r).trans ?_
  refine (Ideal.multiReduction_maximumf_single l _ reduces_S64x1024_S1024 (.inl rfl) rfl (ix1 r)).trans ?_
  show Finset.fold max (Ideal.ofBits .f32 0xFF800000#32) _ _ = _
  rw [ofBits_negInf]
  unfold greatest Finset.sup
  refine congrArg (fun f => Finset.fold max ⊥ f Finset.univ) (funext fun e => ?_)
  show l _ = l _
  refine congrArg l (funext fun a => ?_)
  match a with
  | ⟨0, _⟩ => rfl
  | ⟨1, _⟩ => rfl

/-- A mark is set where the column's entry is its greatest. -/
theorem hit_apply (l : FVec Ideal S64x1024 .f32) (e : Fin 64) (r : Fin 1024) :
    hit l (ix2 e r) = BitVec.ofBool (decide (column l r e = greatest (column l r))) := by
  unfold hit
  rw [cmpf_apply, broadcastTo_apply (maxRow l) broadcasts_S1x1024_S64x1024 (ix2 e r) (ix2 (0 : Fin 1) r)
    (fun a => match a with | ⟨0, _⟩ => rfl | ⟨1, _⟩ => rfl), maxRow_apply]
  rfl

/-- Striking a block's maxima out strikes out those of each column. -/
theorem column_strike (l : FVec Ideal S64x1024 .f32) (r : Fin 1024) : column (strike l) r = strikeOut (column l r) := by
  funext e
  unfold strikeOut
  show strike l (ix2 e r) = _
  unfold strike
  rw [select_apply, hit_apply]
  by_cases h : column l r e = greatest (column l r)
  · rw [if_pos h, decide_eq_true h]
    exact ofBits_negInf
  · rw [if_neg h, decide_eq_false h]
    rfl

/-- The rounds on a block are the rounds on each column. -/
theorem column_after (l : FVec Ideal S64x1024 .f32) (r : Fin 1024) : ∀ n, column (after l n) r = rounds (column l r) n
  | 0 => rfl
  | n + 1 => by rw [after_succ, column_strike, column_after l r n, rounds_succ]

/-- The least of the words that are `e` at place `e` and `64` elsewhere is `e`. -/
theorem fold_place (e : Fin 64) :
    Finset.univ.fold IntOp.minsi 2147483647#32 (fun f : Fin 64 => if f = e then BitVec.ofNat 32 f.val else 64#32)
      = BitVec.ofNat 32 e.val := by
  revert e; decide +kernel

/-- Where a column attains its greatest entry at row `e` alone, the row found is `e`. -/
theorem argRow_apply (l : FVec Ideal S64x1024 .f32) (r : Fin 1024) (e : Fin 64)
    (h : ∀ f, column l r f = greatest (column l r) ↔ f = e) : argRow l (ix2 (0 : Fin 1) r) = BitVec.ofNat 32 e.val := by
  unfold argRow
  refine (shapeCast_a_1a_apply _ shapeCasts_S1024_S1x1024 0 r).trans ?_
  refine (multiReductionI_eq_fold .minsi _ _ reduces_S64x1024_S1024 rfl (ix1 r)).trans ?_
  refine (Shape.Reduces.fold_filter_drop_single reduces_S64x1024_S1024 IntOp.minsi _ _ _).trans ?_
  refine Eq.trans ?_ (fold_place e)
  refine congrArg (fun f => Finset.fold IntOp.minsi 2147483647#32 f Finset.univ) (funext fun (f : Fin 64) => ?_)
  show select (hit l) rowNumber (broadcast S64x1024 64#32) _ = _
  have hi : (reduces_S64x1024_S1024.lift (ix1 r) f : S64x1024.Idx) = ix2 f r :=
    funext fun a => match a with | ⟨0, _⟩ => rfl | ⟨1, _⟩ => rfl
  rw [hi, select_apply, hit_apply]
  by_cases hf : f = e
  · rw [if_pos hf, decide_eq_true ((h f).mpr hf)]
    exact iota_single_apply .tc S64x1024 32 0 iota_S64x1024_d0_w32 (ix2 f r)
  · rw [if_neg hf, decide_eq_false fun h' => hf ((h f).mp h')]
    rfl

/-- Eight rows stacked, read at row `j`, are the `j`-th. -/
theorem stack_apply {α : Type} (f : Fin 8 → S1x1024.Idx → α)
    (h : Shape.Concatenates [S1x1024, S1x1024, S1x1024, S1x1024, S1x1024, S1x1024, S1x1024, S1x1024] S8x1024 0) (j : Fin 8) (r : Fin 1024) :
    concatenate S8x1024 0 [⟨S1x1024, f 0⟩, ⟨S1x1024, f 1⟩, ⟨S1x1024, f 2⟩, ⟨S1x1024, f 3⟩, ⟨S1x1024, f 4⟩, ⟨S1x1024, f 5⟩,
      ⟨S1x1024, f 6⟩, ⟨S1x1024, f 7⟩] h (ix2 j r) = f j (ix2 (0 : Fin 1) r) :=
  concatenate_ofFn_unit_apply (0 : Fin S8x1024.rank) f h rfl rfl (ix2 j r) j rfl (ix2 (0 : Fin 1) r)
    (fun b hb => match b with | ⟨0, _⟩ => absurd rfl hb | ⟨1, _⟩ => rfl)

/-- The eight rounds' rows of maxima, stacked. -/
def maxima (l : FVec Ideal S64x1024 .f32) : FVec Ideal S8x1024 .f32 :=
  concatenate S8x1024 0 [⟨S1x1024, maxRow (after l 0)⟩, ⟨S1x1024, maxRow (after l 1)⟩, ⟨S1x1024, maxRow (after l 2)⟩,
    ⟨S1x1024, maxRow (after l 3)⟩, ⟨S1x1024, maxRow (after l 4)⟩, ⟨S1x1024, maxRow (after l 5)⟩, ⟨S1x1024, maxRow (after l 6)⟩,
    ⟨S1x1024, maxRow (after l 7)⟩] concatenates_S1x1024_S1x1024_S1x1024_S1x1024_S1x1024_S1x1024_S1x1024_S1x1024_S8x1024_d0

/-- The exponentials of the maxima shifted by the first. -/
def exponentials (l : FVec Ideal S64x1024 .f32) : FVec Ideal S8x1024 .f32 :=
  exp (subf (maxima l) (broadcastTo S8x1024 (extractStridedSlice S1x1024 ![0, 0] (maxima l) slices_S8x1024_o0_0_S1x1024)
    broadcasts_S1x1024_S8x1024))

/-- The eight rounds' rows of experts, stacked. -/
def experts (l : FVec Ideal S64x1024 .f32) : IVec S8x1024 32 :=
  concatenate S8x1024 0 [⟨S1x1024, argRow (after l 0)⟩, ⟨S1x1024, argRow (after l 1)⟩, ⟨S1x1024, argRow (after l 2)⟩,
    ⟨S1x1024, argRow (after l 3)⟩, ⟨S1x1024, argRow (after l 4)⟩, ⟨S1x1024, argRow (after l 5)⟩, ⟨S1x1024, argRow (after l 6)⟩,
    ⟨S1x1024, argRow (after l 7)⟩] concatenates_S1x1024_S1x1024_S1x1024_S1x1024_S1x1024_S1x1024_S1x1024_S1x1024_S8x1024_d0

theorem indicesOf_eq (l : FVec Ideal S64x1024 .f32) :
    indicesOf l = transpose S1024x8 [1, 0] (experts l) transposes_S8x1024_p1_0_S1024x8 := rfl

theorem weightsOf_eq (l : FVec Ideal S64x1024 .f32) : weightsOf l =
    transpose S1024x8 [1, 0] (divf (exponentials l) (broadcastTo S8x1024 (shapeCast S1x1024 (multiReduction .add [0] S1024 (exponentials l)
      0x00000000#32 reduces_S8x1024_S1024 (.inl rfl) rfl) shapeCasts_S1024_S1x1024) broadcasts_S1x1024_S8x1024))
      transposes_S8x1024_p1_0_S1024x8 := rfl

/-- Round `j`'s maximum of a token is its greatest entry left. -/
theorem maxima_apply (l : FVec Ideal S64x1024 .f32) (j : Fin 8) (r : Fin 1024) :
    maxima l (ix2 j r) = greatest (rounds (column l r) j.val) := by
  refine (stack_apply (fun n : Fin 8 => maxRow (after l n.val)) _ j r).trans ?_
  rw [maxRow_apply, column_after]

theorem exponentials_apply (l : FVec Ideal S64x1024 .f32) (j : Fin 8) (r : Fin 1024) :
    exponentials l (ix2 j r)
      = Ideal.exp (greatest (rounds (column l r) j.val) - greatest (rounds (column l r) 0)) := by
  show Ideal.exp (maxima l (ix2 j r) - broadcastTo S8x1024 _ broadcasts_S1x1024_S8x1024 (ix2 j r)) = _
  rw [broadcastTo_apply _ broadcasts_S1x1024_S8x1024 (ix2 j r) (ix2 (0 : Fin 1) r)
    (fun a => match a with | ⟨0, _⟩ => rfl | ⟨1, _⟩ => rfl),
    extractStridedSlice_apply ![0, 0] (maxima l) slices_S8x1024_o0_0_S1x1024 (ix2 (0 : Fin 1) r) (ix2 (0 : Fin 8) r)
      (fun a => match a with | ⟨0, _⟩ => rfl | ⟨1, _⟩ => (Nat.zero_add r.val).symm),
    maxima_apply, maxima_apply]
  rfl

variable (l : FVec Ideal S64x1024 .f32) (r : Fin 1024) (hv : Separated (column l r))
include hv

/-- At a token whose eight greatest logits are separated the weights are the softmax's shares, renormalized. -/
theorem weightsOf_apply (j : Fin 8) : weightsOf l (ix2 r j) = weight (column l r) j := by
  rw [weightsOf_eq, weight_eq hv]
  refine (transpose_ix2_apply _ transposes_S8x1024_p1_0_S1024x8 r j).trans ?_
  show Ideal.div (exponentials l (ix2 j r)) (broadcastTo S8x1024 _ broadcasts_S1x1024_S8x1024 (ix2 j r)) = _
  rw [broadcastTo_apply _ broadcasts_S1x1024_S8x1024 (ix2 j r) (ix2 (0 : Fin 1) r)
    (fun a => match a with | ⟨0, _⟩ => rfl | ⟨1, _⟩ => rfl)]
  have he : ∀ s : Fin 8, exponentials l (ix2 s r)
      = Ideal.exp (column l r (place (column l r) (wide s)) - column l r (place (column l r) (wide 0))) := fun s => by
    rw [exponentials_apply]
    exact congrArg₂ (fun a b => Ideal.exp (a - b)) (greatest_rounds hv (wide_lt s)) (greatest_rounds hv (wide_lt 0))
  refine congrArg₂ Ideal.div (he j) ?_
  refine (shapeCast_a_1a_apply _ shapeCasts_S1024_S1x1024 0 r).trans ?_
  refine (Ideal.multiReduction_add_single (exponentials l) _ reduces_S8x1024_S1024 (.inl rfl) rfl (ix1 r)).trans ?_
  refine Finset.sum_congr rfl fun (s : Fin 8) _ => ?_
  have hi : (reduces_S8x1024_S1024.lift (ix1 r) s : S8x1024.Idx) = ix2 s r :=
    funext fun a => match a with | ⟨0, _⟩ => rfl | ⟨1, _⟩ => rfl
  rw [hi]
  exact he s

/-- There the experts found are the eight greatest logits' places. -/
theorem indicesOf_apply (j : Fin 8) : indicesOf l (ix2 r j) = BitVec.ofNat 32 (place (column l r) (wide j)).val := by
  rw [indicesOf_eq]
  refine (transpose_ix2_apply _ transposes_S8x1024_p1_0_S1024x8 r j).trans ?_
  refine (stack_apply (fun n : Fin 8 => argRow (after l n.val)) _ j r).trans ?_
  refine argRow_apply _ r _ fun f => ?_
  rw [column_after]
  exact rounds_eq_greatest_iff hv (wide_lt j) f

/-- There the marks of a round are set at the expert found alone. -/
theorem marksOf_apply (e : Fin 64) (j : Fin 8) :
    marksOf l (ix3 e j r) = (BitVec.ofBool (decide (e = place (column l r) (wide j)))).setWidth 32 := by
  have hi : ∀ i : S64x1024.Idx, i 0 = e → i 1 = r → i = ix2 e r := fun i h0 h1 =>
    funext fun a => match a with | ⟨0, _⟩ => h0 | ⟨1, _⟩ => h1
  refine (congrArg (fun i => BitVec.setWidth 32 (hit (after l j.val) i)) (hi _ rfl rfl)).trans ?_
  show BitVec.setWidth 32 (hit (after l j.val) (ix2 e r)) = _
  rw [hit_apply, column_after]
  refine congrArg (BitVec.setWidth 32) (congrArg BitVec.ofBool (decide_eq_decide.mpr ?_))
  exact rounds_eq_greatest_iff hv (wide_lt j) e

end Cert.KernelIdeal
-- ==== Proof.Logits.lean ====
/- The logits of the router as sums over the extended reals: what both programs are shown to hold. -/
module

public import Idealize.ShloMosaic.Lib.ValueIdx

@[expose] public section

noncomputable section

namespace Cert

open Idealize.ShloMosaic

/-- The logit of token `n` at expert `e`: the token's inner product with the expert's row of weights, plus the expert's bias. -/
def logit (x : (⟨2, ![32768, 4096]⟩ : Shape).Idx → EReal) (w : (⟨2, ![64, 4096]⟩ : Shape).Idx → EReal)
    (b : (⟨1, ![64]⟩ : Shape).Idx → EReal) (n : Fin 32768) (e : Fin 64) : EReal :=
  (∑ k : Fin 4096, x (ValueIdx.ix2 n k) * w (ValueIdx.ix2 e k)) + b (ValueIdx.ix1 e)

end Cert
-- ==== Proof.Inputs.lean ====
/- The blocks that a grid point is handed, read at an index, and the logits it computes of them, over the extended reals: they
   are the logits of the block of tokens that the point reads. -/
module

public import proofs.«01_k».proof.Proof.Data
public import proofs.«01_k».proof.Proof.Values
public import proofs.«01_k».proof.Proof.Logits
public import Idealize.ShloMosaic.Lib.Claim
public import Idealize.ShloMosaic.Lib.ValueIdx
public import Idealize.ShloMosaic.Lib.ValueLayout
public import Idealize.ShloMosaic.Lib.Pipeline.ValueKit
public import Idealize.ShloMosaic.PureOps.Ideal.Laws

@[expose] public section

set_option maxRecDepth 16384

noncomputable section

namespace Cert.KernelIdeal

open Idealize.ShloMosaic hiding ix1 ix2 ix3
open Idealize.ShloMosaic.ValueIdx Idealize.ShloMosaic.TcCoe
open Cert.KernelIdeal.Gen Cert.Column

variable (m : (ℓ : Loc nD τ sig) → Buf (Elt Ideal) ℓ) (c : Dev nD)

/-- The number of the block of tokens that point `t` reads. -/
def blockAt (t : Fin cfg0.N) : ℕ := min t.val 31

theorem index0 : ∀ t : Fin cfg0.N, win0_0.index t = ![blockAt t, 0] := by unfold blockAt; decide +kernel
theorem index1 : ∀ t : Fin cfg0.N, win0_1.index t = ![0, 0] := by decide +kernel
theorem index2 : ∀ t : Fin cfg0.N, win0_2.index t = ![0, 0] := by decide +kernel

/-- Token `r` of the block that point `t` reads. -/
def token (t : Fin cfg0.N) (r : Fin 1024) : Fin 32768 := ⟨1024 * blockAt t + r.val, by unfold blockAt; omega⟩

/-- The launched arrays' logits. -/
def logitOf (n : Fin 32768) (e : Fin 64) : EReal :=
  logit (m ((c.tc : Thread nD τ).loc main_arg0)) (m ((c.tc : Thread nD τ).loc main_arg1)) (m ((c.tc : Thread nD τ).loc main_arg2)) n e

/-- A point's block of tokens. -/
theorem tokens_apply (t : Fin cfg0.N) (r : Fin 1024) (k : Fin 4096) :
    iblk m c 0 t (ix2 r k) = m ((c.tc : Thread nD τ).loc main_arg0) (ix2 (token t r) k) := by
  have h : iblk m c 0 t (ix2 r k) = V m c main_arg0 (((cfg0.win 0).blk t).view.emb (ix2 r k)) := by blk_simp [iblk]
  rw [h, V_main_arg0]
  refine congrArg _ ?_
  funext a; apply Fin.ext
  have ht : (token t r).val = 1024 * blockAt t + r.val := rfl
  match a with
  | ⟨0, _⟩ => blk_simp [index0]; show blockAt t * 1024 + r.val = (token t r).val; omega
  | ⟨1, _⟩ => blk_simp [index0]

/-- The experts' rows of weights, the same at every point. -/
theorem experts_apply (t : Fin cfg0.N) (e : Fin 64) (k : Fin 4096) :
    iblk m c 1 t (ix2 e k) = m ((c.tc : Thread nD τ).loc main_arg1) (ix2 e k) := by
  have h : iblk m c 1 t (ix2 e k) = V m c main_arg1 (((cfg0.win 1).blk t).view.emb (ix2 e k)) := by blk_simp [iblk]
  rw [h, V_main_arg1]
  refine congrArg _ ?_
  funext a; apply Fin.ext
  match a with
  | ⟨0, _⟩ => blk_simp [index1]
  | ⟨1, _⟩ => blk_simp [index1]

/-- The biases as the region finds them: the launched ones, as one row. -/
theorem V_main_v0 : V m c main_v0 = shapeCast S1x64 (m ((c.tc : Thread nD τ).loc main_arg2)) shapeCasts_S64_S1x64 := by
  entry_read
  rfl

/-- The row of biases, the same at every point. -/
theorem biases_apply (t : Fin cfg0.N) (e : Fin 64) :
    iblk m c 2 t (ix2 (0 : Fin 1) e) = m ((c.tc : Thread nD τ).loc main_arg2) (ix1 e) := by
  have h : iblk m c 2 t (ix2 (0 : Fin 1) e) = V m c main_v0 (((cfg0.win 2).blk t).view.emb (ix2 (0 : Fin 1) e)) := by blk_simp [iblk]
  have he : ((cfg0.win 2).blk t).view.emb (ix2 (0 : Fin 1) e) = (ix2 (0 : Fin 1) e : S1x64.Idx) := by
    funext a; apply Fin.ext
    match a with
    | ⟨0, _⟩ => blk_simp [index2]
    | ⟨1, _⟩ => blk_simp [index2]
  rw [h, V_main_v0]
  refine (congrArg _ he).trans ?_
  exact shapeCast_a_1a_apply _ shapeCasts_S64_S1x64 0 e

/-- The logits of a block of tokens, at an index. -/
theorem pay45_apply (x : FVec Ideal S1024x4096 .f32) (w : FVec Ideal S64x4096 .f32) (b : FVec Ideal S1x64 .f32) (r : Fin 1024) (e : Fin 64) :
    k0_pay45 x w b (ix2 r e) = (∑ k : Fin 4096, x (ix2 r k) * w (ix2 e k)) + b (ix2 (0 : Fin 1) e) := by
  unfold k0_pay45
  rw [addf_apply]
  refine congrArg₂ (· + ·) ?_ ?_
  · simp only [matmul]
    rw [Ideal.matmul_constant_zero_apply,
      ← Equiv.sum_comp (contrEquiv1 dot_S1024x4096_S64x4096_S1024x64_1_1_0_0_n_n 4096 rfl rfl).symm]
    refine Finset.sum_congr rfl fun k _ => congrArg₂ (· * ·) (congrArg x ?_) (congrArg w ?_)
    · funext a; exact match a with | ⟨0, _⟩ => rfl | ⟨1, _⟩ => rfl
    · funext a; exact match a with | ⟨0, _⟩ => rfl | ⟨1, _⟩ => rfl
  · rw [broadcastTo_apply _ broadcasts_S1x64_S1024x64 (ix2 r e) (ix2 (0 : Fin 1) e) (fun a => match a with | ⟨0, _⟩ => rfl | ⟨1, _⟩ => rfl)]
    exact shapeCast_apply _ _ _ _ rfl

/-- The logits that a point computes are those of its block's tokens. -/
theorem blockLogits_apply (t : Fin cfg0.N) (r : Fin 1024) (e : Fin 64) :
    blockLogits m c t (ix2 r e) = logitOf m c (token t r) e := by
  unfold blockLogits logitOf logit
  rw [pay45_apply, biases_apply]
  refine congrArg (· + _) (Finset.sum_congr rfl fun k _ => ?_)
  rw [tokens_apply, experts_apply]

/-- A column of their transpose is a token's row of logits. -/
theorem column_blockLogitsT (t : Fin cfg0.N) (r : Fin 1024) : column (blockLogitsT m c t) r = logitOf m c (token t r) := by
  funext e
  refine Eq.trans ?_ (blockLogits_apply m c t r e)
  unfold column blockLogitsT logitsT blockLogits
  exact transpose_ix2_apply _ transposes_S1024x64_p1_0_S64x1024 e r

end Cert.KernelIdeal
-- ==== Proof.Arrays.lean ====
/- The kernel's result arrays, over the extended reals, at an index: the logits everywhere; the weights, the experts' numbers and
   the marks of every token whose logits are clear enough to be ranked. -/
module

public import proofs.«01_k».proof.Proof.Run
public import proofs.«01_k».proof.Proof.Inputs

@[expose] public section

set_option maxRecDepth 16384

noncomputable section

namespace Cert.KernelIdeal

open Idealize.ShloMosaic hiding ix1 ix2 ix3
open Idealize.ShloMosaic.ValueIdx Idealize.ShloMosaic.TcCoe
open Cert.KernelIdeal.Gen Cert.Column

variable (m : (ℓ : Loc nD τ sig) → Buf (Elt Ideal) ℓ) (c : Dev nD)

theorem index3 : ∀ t : Fin cfg0.N, win0_3.index t = ![blockAt t, 0] := by unfold blockAt; decide +kernel

/-- The windows of the other results are written back after the first point, at the block of the point before. -/
theorem index4 : ∀ t : Fin cfg0.N, (cfg0.win 4).flush t = true → 0 < t.val ∧ win0_4.index t = ![t.val - 1, 0] := by decide +kernel
theorem index5 : ∀ t : Fin cfg0.N, (cfg0.win 5).flush t = true → 0 < t.val ∧ win0_5.index t = ![t.val - 1, 0] := by decide +kernel
theorem index6 : ∀ t : Fin cfg0.N, (cfg0.win 6).flush t = true → 0 < t.val ∧ win0_6.index t = ![0, 0, t.val - 1] := by decide +kernel

/-- The point before. -/
def before (t : Fin cfg0.N) : Fin cfg0.N := ⟨t.val - 1, by omega⟩

theorem before_succ (t : Fin cfg0.N) (h : 0 < t.val) : (before t).val + 1 = t.val := by
  show t.val - 1 + 1 = t.val
  omega

theorem blockAt_before (t : Fin cfg0.N) : blockAt (before t) = t.val - 1 := by
  have h : t.val < 33 := t.isLt
  show min (t.val - 1) 31 = t.val - 1
  omega

variable (after : (w : Fin cfg0.W) → Fin cfg0.N → (cfg0.win w).block.Idx → Elt Ideal (cfg0.win w).elt)
  (hleaves : ∀ w u, (cfg0.win w).flush u = true → (rdata m c).Leaves w u (after w u))

include hleaves in
/-- What a result's buffer holds when it is written back. -/
theorem left_there (w : Fin cfg0.W) (hw : isResult w = true) (u : Fin cfg0.N) (hu : (cfg0.win w).flush u = true) :
    leaves m c w u (after w u) :=
  Pipeline.Dat.toRRel_leaves (data m c) hw (hleaves w u hu)

include hleaves in
/-- The first result: every token's logits. -/
theorem array_logits (n : Fin 32768) (e : Fin 64) :
    ((rdata m c).withAfter after).arrAt 3 cfg0.N (ix2 n e : S32768x64.Idx) = logitOf m c n e := by
  refine (Pipeline.Dat.arrAt_forall_of_covers ((rdata m c).withAfter after) 3
    (fun (i : S32768x64.Idx) (v : EReal) => ∀ (n : Fin 32768) (e : Fin 64), i = ix2 n e → v = logitOf m c n e)
    (by decide +kernel) (fun t ht y => ?_) (ix2 n e : S32768x64.Idx)) n e rfl
  obtain ⟨r, f, rfl⟩ : ∃ (r : Fin 1024) (f : Fin 64), y = (ix2 r f : S1024x64.Idx) := ⟨y 0, y 1, ValueIdx.eq_ix2 y⟩
  intro n e hi
  have h0 := congrArg Fin.val (congrFun hi 0)
  have h1 := congrArg Fin.val (congrFun hi 1)
  blk_simp [index3] at h0
  blk_simp [index3] at h1
  obtain rfl : token t r = n := Fin.ext (by
    show 1024 * blockAt t + r.val = n.val
    have h : blockAt t * 1024 + r.val = n.val := h0
    omega)
  obtain rfl : f = e := Fin.ext h1
  exact (congrFun (left_there m c after hleaves 3 rfl t ht) (ix2 r f)).trans (blockLogits_apply m c t r f)

include hleaves in
/-- The second result: the weights of a token whose logits are clear enough. -/
theorem array_weights (n : Fin 32768) (j : Fin 8) (hv : Separated (logitOf m c n)) :
    ((rdata m c).withAfter after).arrAt 4 cfg0.N (ix2 n j : S32768x8.Idx) = weight (logitOf m c n) j := by
  refine (Pipeline.Dat.arrAt_forall_of_covers ((rdata m c).withAfter after) 4
    (fun (i : S32768x8.Idx) (v : EReal) => ∀ (n : Fin 32768) (j : Fin 8), i = ix2 n j → Separated (logitOf m c n) →
      v = weight (logitOf m c n) j)
    (by decide +kernel) (fun t ht y => ?_) (ix2 n j : S32768x8.Idx)) n j rfl hv
  obtain ⟨r, k, rfl⟩ : ∃ (r : Fin 1024) (k : Fin 8), y = (ix2 r k : S1024x8.Idx) := ⟨y 0, y 1, ValueIdx.eq_ix2 y⟩
  intro n j hi hv
  obtain ⟨hpos, hidx⟩ := index4 t ht
  have h0 := congrArg Fin.val (congrFun hi 0)
  have h1 := congrArg Fin.val (congrFun hi 1)
  blk_simp [hidx] at h0
  blk_simp [hidx] at h1
  obtain rfl : token (before t) r = n := Fin.ext (by
    show 1024 * blockAt (before t) + r.val = n.val
    have h : (t.val - 1) * 1024 + r.val = n.val := h0
    rw [blockAt_before]
    omega)
  obtain rfl : k = j := Fin.ext h1
  rw [← column_blockLogitsT] at hv ⊢
  exact (congrFun (left_there m c after hleaves 4 rfl t ht (before t) (before_succ t hpos)) (ix2 r k)).trans
    (weightsOf_apply (blockLogitsT m c (before t)) r hv k)

include hleaves in
/-- The third result: its experts' numbers. -/
theorem array_indices (n : Fin 32768) (j : Fin 8) (hv : Separated (logitOf m c n)) :
    ((rdata m c).withAfter after).arrAt 5 cfg0.N (ix2 n j : S32768x8.Idx) = BitVec.ofNat 32 (place (logitOf m c n) (wide j)).val := by
  refine (Pipeline.Dat.arrAt_forall_of_covers ((rdata m c).withAfter after) 5
    (fun (i : S32768x8.Idx) (v : BitVec 32) => ∀ (n : Fin 32768) (j : Fin 8), i = ix2 n j → Separated (logitOf m c n) →
      v = BitVec.ofNat 32 (place (logitOf m c n) (wide j)).val)
    (by decide +kernel) (fun t ht y => ?_) (ix2 n j : S32768x8.Idx)) n j rfl hv
  obtain ⟨r, k, rfl⟩ : ∃ (r : Fin 1024) (k : Fin 8), y = (ix2 r k : S1024x8.Idx) := ⟨y 0, y 1, ValueIdx.eq_ix2 y⟩
  intro n j hi hv
  obtain ⟨hpos, hidx⟩ := index5 t ht
  have h0 := congrArg Fin.val (congrFun hi 0)
  have h1 := congrArg Fin.val (congrFun hi 1)
  blk_simp [hidx] at h0
  blk_simp [hidx] at h1
  obtain rfl : token (before t) r = n := Fin.ext (by
    show 1024 * blockAt (before t) + r.val = n.val
    have h : (t.val - 1) * 1024 + r.val = n.val := h0
    rw [blockAt_before]
    omega)
  obtain rfl : k = j := Fin.ext h1
  rw [← column_blockLogitsT] at hv ⊢
  exact (congrFun (left_there m c after hleaves 5 rfl t ht (before t) (before_succ t hpos)) (ix2 r k)).trans
    (indicesOf_apply (blockLogitsT m c (before t)) r hv k)

include hleaves in
/-- The fourth result: its marks. -/
theorem array_marks (e : Fin 64) (j : Fin 8) (n : Fin 32768) (hv : Separated (logitOf m c n)) :
    ((rdata m c).withAfter after).arrAt 6 cfg0.N (ix3 e j n : S64x8x32768.Idx)
      = (BitVec.ofBool (decide (e = place (logitOf m c n) (wide j)))).setWidth 32 := by
  refine (Pipeline.Dat.arrAt_forall_of_covers ((rdata m c).withAfter after) 6
    (fun (i : S64x8x32768.Idx) (v : BitVec 32) => ∀ (e : Fin 64) (j : Fin 8) (n : Fin 32768), i = ix3 e j n →
      Separated (logitOf m c n) → v = (BitVec.ofBool (decide (e = place (logitOf m c n) (wide j)))).setWidth 32)
    (by decide +kernel) (fun t ht y => ?_) (ix3 e j n : S64x8x32768.Idx)) e j n rfl hv
  obtain ⟨f, k, r, rfl⟩ : ∃ (f : Fin 64) (k : Fin 8) (r : Fin 1024), y = (ix3 f k r : S64x8x1024.Idx) :=
    ⟨y 0, y 1, y 2, ValueIdx.eq_ix3 y⟩
  intro e j n hi hv
  obtain ⟨hpos, hidx⟩ := index6 t ht
  have h0 := congrArg Fin.val (congrFun hi 0)
  have h1 := congrArg Fin.val (congrFun hi 1)
  have h2 := congrArg Fin.val (congrFun hi 2)
  blk_simp [hidx] at h0
  blk_simp [hidx] at h1
  blk_simp [hidx] at h2
  obtain rfl : token (before t) r = n := Fin.ext (by
    show 1024 * blockAt (before t) + r.val = n.val
    have h : (t.val - 1) * 1024 + r.val = n.val := h2
    rw [blockAt_before]
    omega)
  obtain rfl : f = e := Fin.ext h0
  obtain rfl : k = j := Fin.ext h1
  rw [← column_blockLogitsT] at hv ⊢
  exact (congrFun (left_there m c after hleaves 6 rfl t ht (before t) (before_succ t hpos)) (ix3 f k r)).trans
    (marksOf_apply (blockLogitsT m c (before t)) r hv f k)

end Cert.KernelIdeal
-- ==== Proof.Reference.lean ====
/- What the reference computes, over the extended reals: its logits are the sums of `Logits`; its softmax, its eight greatest, its
   weights and its marks at a token are `Column`'s and `Softmax`'s on the token's row of logits. -/
module

public import proofs.«01_k».proof.Proof.Gen.ReferenceIdeal
public import proofs.«01_k».proof.Proof.Logits
public import proofs.«01_k».proof.Proof.Softmax
public import Idealize.ShloMosaic.Lib.ValueIdx
public import Idealize.ShloMosaic.Lib.ValueLayout
public import Idealize.ShloMosaic.Lib.IdealHost
public import Idealize.ShloMosaic.Lib.Pipeline.ValueKit
public import Idealize.ShloMosaic.PureOps.Ideal.Laws
public import Idealize.ShloMosaic.PureOps.Reduce

@[expose] public section

set_option maxRecDepth 16384

noncomputable section

namespace Cert.ReferenceIdeal

open Idealize.ShloMosaic hiding ix1 ix2 ix3
open Idealize.ShloMosaic.ValueIdx
open Cert.ReferenceIdeal.Gen Cert.Column

/-- The reference's logits. -/
def logits (x : FVec Ideal S32768x4096 .f32) (w : FVec Ideal S64x4096 .f32) (b : FVec Ideal S64 .f32) : FVec Ideal S32768x64 .f32 :=
  addf (Host.dotGeneral dot_S32768x4096_S4096x64_S32768x64_1_0_0_1_n_n none x (transpose S4096x64 [1, 0] w transposes_S64x4096_S4096x64_1_0))
    (broadcastInDim S32768x64 ![0, 1] bcast_S1x64_S32768x64_0_1 (broadcastInDim S1x64 ![1] bcast_S64_S1x64_1 b))

/-- Its rows' greatest logits. -/
def tops (l : FVec Ideal S32768x64 .f32) : FVec Ideal S32768 .f32 :=
  maximumf (broadcastInDim S32768 ![] bcast_S_S32768 (constant S_ .f32 0xFF800000#32))
    (Host.reduce FloatOps.maximumf l (constant S_ .f32 0xFF800000#32) reducesTo_S32768x64_S32768_d1 h_S_)

/-- Its exponentials of the logits shifted by their row's greatest. -/
def exponentials (l : FVec Ideal S32768x64 .f32) : FVec Ideal S32768x64 .f32 :=
  Host.exp (subf l (broadcastInDim S32768x64 ![0, 1] bcast_S32768x1_S32768x64_0_1
    (broadcastInDim S32768x1 ![0] bcast_S32768_S32768x1_0 (tops l))))

/-- Its softmax. -/
def shares (l : FVec Ideal S32768x64 .f32) : FVec Ideal S32768x64 .f32 :=
  Host.divf (exponentials l) (broadcastInDim S32768x64 ![0, 1] bcast_S32768x1_S32768x64_0_1
    (broadcastInDim S32768x1 ![0] bcast_S32768_S32768x1_0
      (Host.reduceAdd (exponentials l) (constant S_ .f32 0x00000000#32) reducesTo_S32768x64_S32768_d1 h_S_)))

/-- The eight greatest of each row of an array, with their places. -/
def eight (p : FVec Ideal S32768x64 .f32) : (S32768x8.Idx → Ideal .f32) × IVec S32768x8 32 :=
  Host.topK S32768x8 1 (FloatOps.cmpfTotal .gt) p sliceFits_S32768x64_S32768x8

/-- Each row of an array sorted, greatest first, with the places its entries come from. -/
def sorted (p : FVec Ideal S32768x64 .f32) : (S32768x64.Idx → Ideal .f32) × IVec S32768x64 32 :=
  Host.sort2 S32768x64 1 (fun a b => FloatOps.cmpfTotal (F := Ideal) (φ := .f32) .gt a.1 b.1) p
    fun i => if h : 1 < S32768x64.rank then iotaInDim S32768x64 32 ⟨1, h⟩ i else 0#32

/-- Rows of eight divided by their sums. -/
def renormalize (q : FVec Ideal S32768x8 .f32) : FVec Ideal S32768x8 .f32 :=
  Host.divf q (broadcastInDim S32768x8 ![0, 1] bcast_S32768x1_S32768x8_0_1
    (broadcastInDim S32768x1 ![0] bcast_S32768_S32768x1_0
      (Host.reduceAdd q (constant S_ .f32 0x00000000#32) reducesTo_S32768x8_S32768_d1 h_S_)))

/-- The marks of eight places a row. -/
def marks (i : IVec S32768x8 32) : IVec S64x8x32768 32 :=
  transpose S64x8x32768 [2, 1, 0] (extui 32 (cmpi .eq
    (broadcastInDim S32768x8x64 ![0, 1, 2] bcast_S32768x8x1_S32768x8x64_0_1_2 (broadcastInDim S32768x8x1 ![0, 1] bcast_S32768x8_S32768x8x1_0_1 i))
    (broadcastInDim S32768x8x64 ![0, 1, 2] bcast_S1x1x64_S32768x8x64_0_1_2 (iotaInDim S1x1x64 32 2))) natLt_1_32)
    transposes_S32768x8x64_S64x8x32768_2_1_0

/-- A token's row. -/
def row (l : FVec Ideal S32768x64 .f32) (n : Fin 32768) : Fin 64 → EReal := fun e => l (ix2 n e)

theorem ofBits_negInf : Ideal.ofBits .f32 0xFF800000#32 = ⊥ := by simp [Ideal.ofBits, Ideal.ieee]

/-- A column of one entry a row, spread over `64` columns, reads the row's entry. -/
theorem spread64_apply {α : Type} (x : S32768.Idx → α) (n : Fin 32768) (e : Fin 64) :
    broadcastInDim S32768x64 ![0, 1] bcast_S32768x1_S32768x64_0_1 (broadcastInDim S32768x1 ![0] bcast_S32768_S32768x1_0 x) (ix2 n e)
      = x (ix1 n) := by
  rw [broadcastInDim_apply _ bcast_S32768x1_S32768x64_0_1 _ (ix2 n e) (ix2 n (0 : Fin 1))
      (fun a => match a with | ⟨0, _⟩ => rfl | ⟨1, _⟩ => rfl),
    broadcastInDim_apply _ bcast_S32768_S32768x1_0 _ (ix2 n (0 : Fin 1)) (ix1 n) (fun a => match a with | ⟨0, _⟩ => rfl)]

/-- … and over `8`. -/
theorem spread8_apply {α : Type} (x : S32768.Idx → α) (n : Fin 32768) (e : Fin 8) :
    broadcastInDim S32768x8 ![0, 1] bcast_S32768x1_S32768x8_0_1 (broadcastInDim S32768x1 ![0] bcast_S32768_S32768x1_0 x) (ix2 n e)
      = x (ix1 n) := by
  rw [broadcastInDim_apply _ bcast_S32768x1_S32768x8_0_1 _ (ix2 n e) (ix2 n (0 : Fin 1))
      (fun a => match a with | ⟨0, _⟩ => rfl | ⟨1, _⟩ => rfl),
    broadcastInDim_apply _ bcast_S32768_S32768x1_0 _ (ix2 n (0 : Fin 1)) (ix1 n) (fun a => match a with | ⟨0, _⟩ => rfl)]

theorem hostExp_apply {s : Shape} (a : FVec Ideal s .f32) (i : s.Idx) : Host.exp a i = Ideal.exp (a i) := rfl
theorem cmpi_apply {s : Shape} (a b : IVec s 32) (i : s.Idx) : cmpi .eq a b i = BitVec.ofBool (a i == b i) := rfl

theorem reduces64 : S32768x64.Reduces [1] S32768 := by decide
theorem reduces8 : S32768x8.Reduces [1] S32768 := by decide

theorem lift64 (n : Fin 32768) (e : Fin 64) : (reduces64.lift (ix1 n) e : S32768x64.Idx) = ix2 n e :=
  funext fun a => match a with | ⟨0, _⟩ => rfl | ⟨1, _⟩ => rfl
theorem lift8 (n : Fin 32768) (e : Fin 8) : (reduces8.lift (ix1 n) e : S32768x8.Idx) = ix2 n e :=
  funext fun a => match a with | ⟨0, _⟩ => rfl | ⟨1, _⟩ => rfl

/-- The reference's logits are the sums. -/
theorem logits_apply (x : FVec Ideal S32768x4096 .f32) (w : FVec Ideal S64x4096 .f32) (b : FVec Ideal S64 .f32)
    (n : Fin 32768) (e : Fin 64) : logits x w b (ix2 n e) = logit x w b n e := by
  unfold logits logit
  rw [addf_apply]
  refine congrArg₂ (· + ·) ?_ ?_
  · simp only [Host.dotGeneral]
    rw [Ideal.dotGeneral_apply,
      ← Equiv.sum_comp (contrEquiv1 dot_S32768x4096_S4096x64_S32768x64_1_0_0_1_n_n 4096 rfl rfl).symm]
    refine Finset.sum_congr rfl fun k _ => congrArg₂ (· * ·) (congrArg x ?_) ?_
    · funext a; exact match a with | ⟨0, _⟩ => rfl | ⟨1, _⟩ => rfl
    · refine (congrArg _ ?_).trans (transpose_ix2_apply w transposes_S64x4096_S4096x64_1_0 k e)
      funext a; exact match a with | ⟨0, _⟩ => rfl | ⟨1, _⟩ => rfl
  · rw [broadcastInDim_apply _ bcast_S1x64_S32768x64_0_1 _ (ix2 n e) (ix2 (0 : Fin 1) e)
        (fun a => match a with | ⟨0, _⟩ => rfl | ⟨1, _⟩ => rfl),
      broadcastInDim_apply _ bcast_S64_S1x64_1 _ (ix2 (0 : Fin 1) e) (ix1 e) (fun a => match a with | ⟨0, _⟩ => rfl)]

variable (l : FVec Ideal S32768x64 .f32) (n : Fin 32768)

/-- A row's greatest logit. -/
theorem tops_apply : tops l (ix1 n) = greatest (row l n) := by
  unfold tops
  rw [maximumf_apply, broadcastInDim_scalar_apply, Host.reduce_eq_fold_single FloatOps.maximumf l _ reducesTo_S32768x64_S32768_d1 reduces64 h_S_ (ix1 n),
    constant_apply, constant_apply, ofBits_negInf, max_eq_right bot_le]
  unfold greatest Finset.sup
  exact congrArg (fun f => Finset.fold max ⊥ f Finset.univ) (funext fun (e : Fin 64) => congrArg l (lift64 n e))

theorem exponentials_apply (e : Fin 64) : exponentials l (ix2 n e) = shifted (row l n) e := by
  unfold exponentials
  rw [hostExp_apply, subf_apply, spread64_apply, tops_apply]
  rfl

/-- The reference's softmax is the column's. -/
theorem shares_apply (e : Fin 64) : shares l (ix2 n e) = share (row l n) e := by
  unfold shares share
  rw [hostDivf_apply, spread64_apply, exponentials_apply, hostReduceAdd_apply, Ideal.hostReduceAdd_single _ reduces64,
    constant_apply, Ideal.ofBits_zero_f32, zero_add]
  refine congrArg (Ideal.div (shifted (row l n) e)) (Finset.sum_congr rfl fun (f : Fin 64) _ => ?_)
  rw [lift64, exponentials_apply]

/-- Rows of eight divided by their sums, at an index. -/
theorem renormalize_apply (q : FVec Ideal S32768x8 .f32) (j : Fin 8) :
    renormalize q (ix2 n j) = Ideal.div (q (ix2 n j)) (∑ s : Fin 8, q (ix2 n s)) := by
  unfold renormalize
  rw [hostDivf_apply, spread8_apply, hostReduceAdd_apply, Ideal.hostReduceAdd_single _ reduces8,
    constant_apply, Ideal.ofBits_zero_f32, zero_add]
  refine congrArg (Ideal.div (q (ix2 n j))) ?_
  exact Finset.sum_congr rfl fun (s : Fin 8) _ => congrArg q (lift8 n s)

/-- The eight greatest of a row are those at the first eight places of the row sorted. -/
theorem eight_apply (p : FVec Ideal S32768x64 .f32) (j : Fin 8) :
    (eight p).1 (ix2 n j) = row p n (sortedFrom (fun a b => decide (row p n b < row p n a)) (wide j))
    ∧ (eight p).2 (ix2 n j) = BitVec.ofNat 32 (sortedFrom (fun a b => decide (row p n b < row p n a)) (wide j)).val := by
  have hal : ∀ k : Fin 64, Shape.Idx.along (s := S32768x64) (ix2 n (wide j)) 1 k = ix2 n k := fun k =>
    funext fun a => match a with | ⟨0, _⟩ => rfl | ⟨1, _⟩ => rfl
  have hR : ∀ a b : Fin 64, (FloatOps.cmpfTotal (F := Ideal) (φ := .f32) .gt (row p n a) (row p n b) == 1#1) = decide (row p n b < row p n a) :=
    fun a b => by
      show (BitVec.ofBool (decide (row p n b < row p n a)) == 1#1) = _
      cases decide (row p n b < row p n a) <;> rfl
  have h1 : ∀ {α : Type} (z : S32768x64.Idx → α),
      extractStridedSlice S32768x8 (fun _ => 0) z sliceFits_S32768x64_S32768x8 (ix2 n j) = z (ix2 n (wide j)) := fun z =>
    extractStridedSlice_apply _ z sliceFits_S32768x64_S32768x8 (ix2 n j) (ix2 n (wide j))
      (fun a => match a with | ⟨0, _⟩ => (Nat.zero_add _).symm | ⟨1, _⟩ => (Nat.zero_add _).symm)
  have h2 : sortedFrom (fun k k' : Fin 64 => FloatOps.cmpfTotal (F := Ideal) (φ := .f32) .gt
        (p (Shape.Idx.along (s := S32768x64) (ix2 n (wide j)) 1 k)) (p (Shape.Idx.along (s := S32768x64) (ix2 n (wide j)) 1 k')) == 1#1) (wide j)
      = sortedFrom (fun a b => decide (row p n b < row p n a)) (wide j) := by
    refine congrArg (fun R => sortedFrom R (wide j)) (funext fun a => funext fun b => ?_)
    rw [hal, hal]
    exact hR a b
  constructor
  · show extractStridedSlice S32768x8 (fun _ => 0) (sorted p).1 sliceFits_S32768x64_S32768x8 (ix2 n j) = _
    rw [h1]
    exact (congrArg p (hal _)).trans (congrArg (row p n) h2)
  · show extractStridedSlice S32768x8 (fun _ => 0) (sorted p).2 sliceFits_S32768x64_S32768x8 (ix2 n j) = _
    rw [h1]
    let number : S32768x64.Idx → BitVec 32 := fun i => if h : 1 < S32768x64.rank then iotaInDim S32768x64 32 ⟨1, h⟩ i else 0#32
    have hs : (sorted p).2 (ix2 n (wide j)) = number (Shape.Idx.along (s := S32768x64) (ix2 n (wide j)) 1
        (sortedFrom (fun k k' : Fin 64 => FloatOps.cmpfTotal (F := Ideal) (φ := .f32) .gt
          (p (Shape.Idx.along (s := S32768x64) (ix2 n (wide j)) 1 k)) (p (Shape.Idx.along (s := S32768x64) (ix2 n (wide j)) 1 k')) == 1#1)
          (wide j))) := rfl
    have hn : ∀ k : Fin 64, number (ix2 n k) = BitVec.ofNat 32 k.val := fun k => rfl
    refine hs.trans ((congrArg (fun k : Fin 64 => number (Shape.Idx.along (s := S32768x64) (ix2 n (wide j)) 1 k)) h2).trans ?_)
    exact (congrArg number (hal _)).trans (hn _)

/-- The marks of eight places a row, at an index. -/
theorem marks_apply (i : IVec S32768x8 32) (e : Fin 64) (j : Fin 8) :
    marks i (ix3 e j n) = (BitVec.ofBool (i (ix2 n j) == BitVec.ofNat 32 e.val)).setWidth 32 := by
  unfold marks
  rw [transpose_apply _ _ transposes_S32768x8x64_S64x8x32768_2_1_0 (ix3 e j n) (ix3 n j e)
    (fun a => match a with | ⟨0, _⟩ => rfl | ⟨1, _⟩ => rfl | ⟨2, _⟩ => rfl),
    extui_apply, cmpi_apply,
    broadcastInDim_apply _ bcast_S32768x8x1_S32768x8x64_0_1_2 _ (ix3 n j e) (ix3 n j (0 : Fin 1))
      (fun a => match a with | ⟨0, _⟩ => rfl | ⟨1, _⟩ => rfl | ⟨2, _⟩ => rfl),
    broadcastInDim_apply _ bcast_S32768x8_S32768x8x1_0_1 _ (ix3 n j (0 : Fin 1)) (ix2 n j)
      (fun a => match a with | ⟨0, _⟩ => rfl | ⟨1, _⟩ => rfl),
    broadcastInDim_apply _ bcast_S1x1x64_S32768x8x64_0_1_2 _ (ix3 n j e) (ix3 (0 : Fin 1) (0 : Fin 1) e)
      (fun a => match a with | ⟨0, _⟩ => rfl | ⟨1, _⟩ => rfl | ⟨2, _⟩ => rfl)]
  rfl

variable (hv : Separated (row l n))
include hv

theorem row_shares : row (shares l) n = share (row l n) := funext fun e => shares_apply l n e

omit hv in
theorem place_row_shares (hv : Separated (row l n)) (j : Fin 8) :
    sortedFrom (fun a b => decide (row (shares l) n b < row (shares l) n a)) (wide j) = place (row l n) (wide j) := by
  rw [row_shares l n hv]; exact place_share hv (wide j)

/-- At a token whose eight greatest logits are separated, the reference's experts are their places … -/
theorem indices_apply (j : Fin 8) : (eight (shares l)).2 (ix2 n j) = BitVec.ofNat 32 (place (row l n) (wide j)).val := by
  rw [(eight_apply n (shares l) j).2, place_row_shares l n hv]

/-- … its weights the softmax's shares there, renormalized … -/
theorem weights_apply (j : Fin 8) : renormalize (eight (shares l)).1 (ix2 n j) = weight (row l n) j := by
  have h : ∀ s : Fin 8, (eight (shares l)).1 (ix2 n s) = share (row l n) (place (row l n) (wide s)) := fun s => by
    rw [(eight_apply n (shares l) s).1, place_row_shares l n hv, row_shares l n hv]
  rw [renormalize_apply]
  exact congrArg₂ Ideal.div (h j) (Finset.sum_congr rfl fun s _ => h s)

/-- … and its marks set at them alone. -/
theorem marks_eight_apply (e : Fin 64) (j : Fin 8) :
    marks (eight (shares l)).2 (ix3 e j n) = (BitVec.ofBool (decide (e = place (row l n) (wide j)))).setWidth 32 := by
  rw [marks_apply, indices_apply l n hv]
  refine congrArg (fun b => BitVec.setWidth 32 (BitVec.ofBool b)) ?_
  have hw : ∀ a b : Fin 64, (BitVec.ofNat 32 a.val == BitVec.ofNat 32 b.val) = decide (b = a) := by decide +kernel
  exact hw _ _

end Cert.ReferenceIdeal
-- ==== Proof.ReferenceRun.lean ====
/- The reference's run: its results are the terms of `Reference`, its arguments end unchanged, and no counter is left. -/
module

public import proofs.«01_k».proof.Proof.Gen.ReferenceIdeal.Run
public import proofs.«01_k».proof.Proof.Reference
public import Idealize.ShloMosaic.Lib.Claim
public import Idealize.ShloMosaic.Lib.Quiescent

@[expose] public section

set_option maxRecDepth 16384

noncomputable section

namespace Cert.ReferenceIdeal

open Idealize.ShloMosaic Idealize.ShloMosaic.TcCoe Idealize.SL.Sem
open Cert.ReferenceIdeal.Gen

variable (m : (ℓ : Loc nD τ sig) → Buf (Elt Ideal) ℓ) (ρ : Dev nD → PrngReg)

/-- The logits of the launched arguments. -/
def logitsAt (c : Dev nD) : FVec Ideal S32768x64 .f32 :=
  logits (m ((c.tc : Thread nD τ).loc main_arg0)) (m ((c.tc : Thread nD τ).loc main_arg1)) (m ((c.tc : Thread nD τ).loc main_arg2))

/-- Their softmax's eight greatest a row, with their places. -/
def eightAt (c : Dev nD) : (S32768x8.Idx → Ideal .f32) × IVec S32768x8 32 := eight (shares (logitsAt m c))

/-- The named term of the weights is the eight greatest renormalized. -/
theorem weights_term (c : Dev nD) : Value.res_main_v19 m c = renormalize (eightAt m c).1 := rfl

/-- What the reference's results hold at the end, and what is unchanged. -/
theorem run : θ_run defs (onTc (τ := τ) (main (F := Ideal))) ⟨m, fun _ => 0, ρ⟩ (fun r => ∀ c : Dev nD,
      r.2.mem ((c.tc : Thread nD τ).loc main_v4) = logitsAt m c
      ∧ r.2.mem ((c.tc : Thread nD τ).loc main_v19) = renormalize (eightAt m c).1
      ∧ r.2.mem ((c.tc : Thread nD τ).loc main_indices) = (eightAt m c).2
      ∧ r.2.mem ((c.tc : Thread nD τ).loc main_v21) = marks (eightAt m c).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1, (h c).2.1.trans (weights_term m c), (h c).2.2.1, (h c).2.2.2.1, (h c).2.2.2.2⟩)
    (Value.run (F := Ideal) m ρ)

/-- The frame: the run ends, its arguments unchanged, every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2.2, sem_eq_zero_of_no_sems (by decide) r.2⟩) (run m ρ)

end Cert.ReferenceIdeal
-- ==== Proof.Mask.lean ====
/- What the claim's mask says of a token: where its bit is set, every one of the token's logits either has eight above it or is finite
   and equal to no other. The mask is all ones on the logits themselves. -/
module

public import proofs.«01_k».proof.Proof.Gen.On_separated
public import proofs.«01_k».proof.Proof.Reference
public import Idealize.ShloMosaic.Lib.IndicatorCount

@[expose] public section

set_option maxRecDepth 16384

noncomputable section

namespace Cert.On_separated

open Idealize.ShloMosaic hiding ix1 ix2 ix3
open Idealize.ShloMosaic.ValueIdx
open Cert.On_separated.Gen Cert.Column

/-- Every pair of a row's logits compared: at token, entry, other entry. -/
def compared (p : CmpFPredicate) (l : FVec Ideal S32768x64 .f32) : IVec S32768x64x64 1 :=
  cmpf p
    (broadcastInDim S32768x64x64 ![0, 1, 2] bcast_S32768x1x64_S32768x64x64_0_1_2 (broadcastInDim S32768x1x64 ![0, 2] bcast_S32768x64_S32768x1x64_0_2 l))
    (broadcastInDim S32768x64x64 ![0, 1, 2] bcast_S32768x64x1_S32768x64x64_0_1_2 (broadcastInDim S32768x64x1 ![0, 1] bcast_S32768x64_S32768x64x1_0_1 l))

/-- How many others stand so to each entry. -/
def counted (p : CmpFPredicate) (l : FVec Ideal S32768x64 .f32) : IVec S32768x64 32 :=
  Host.reduce IntOp.addi (extui 32 (compared p l) natLt_1_32) (constantI S_ 32 0#32) reducesTo_S32768x64x64_S32768x64_d2 h_S_

/-- Which logits are finite. -/
def finite (l : FVec Ideal S32768x64 .f32) : IVec S32768x64 1 :=
  cmpf .olt (Host.absf l) (broadcastInDim S32768x64 ![] bcast_S_S32768x64 (constant S_ .f32 0x7F800000#32))

/-- Which entries either have eight above or are finite and equal to no other. -/
def clear (l : FVec Ideal S32768x64 .f32) : IVec S32768x64 1 :=
  ori (cmpi .sge (counted .ogt l) (broadcastInDim S32768x64 ![] bcast_S_S32768x64 (constantI S_ 32 8#32)))
    (andi (cmpi .eq (counted .oeq l) (broadcastInDim S32768x64 ![] bcast_S_S32768x64 (constantI S_ 32 1#32))) (finite l))

/-- The tokens all of whose entries are such. -/
def ok (l : FVec Ideal S32768x64 .f32) : IVec S32768 1 :=
  Host.reduce IntOp.andi (clear l) (constantI S_ 1 1#1) reducesTo_S32768x64_S32768_d1 h_S_

/-- The mask: ones on the logits, and on the weights, the experts and the marks the token's bit. -/
theorem fn_eq (x : FVec Ideal S32768x4096 .f32) (w : FVec Ideal S64x4096 .f32) (b : FVec Ideal S64 .f32) :
    fn (F := Ideal) x w b
      = (broadcastInDim S32768x64 ![] bcast_S_S32768x64 (constantI S_ 1 1#1),
         broadcastInDim S32768x8 ![0, 1] bcast_S32768x1_S32768x8_0_1 (broadcastInDim S32768x1 ![0] bcast_S32768_S32768x1_0 (ok (Cert.ReferenceIdeal.logits x w b))),
         broadcastInDim S32768x8 ![0, 1] bcast_S32768x1_S32768x8_0_1 (broadcastInDim S32768x1 ![0] bcast_S32768_S32768x1_0 (ok (Cert.ReferenceIdeal.logits x w b))),
         broadcastInDim S64x8x32768 ![0, 1, 2] bcast_S1x1x32768_S64x8x32768_0_1_2 (broadcastInDim S1x1x32768 ![2] bcast_S32768_S1x1x32768_2 (ok (Cert.ReferenceIdeal.logits x w b)))) :=
  rfl

theorem cmpi_apply {s : Shape} (p : CmpIPredicate) (a b : IVec s 32) (i : s.Idx) : cmpi p a b i = IntOp.cmpi p (a i) (b i) := rfl

/-- A conjunction of bits is set only where each is. -/
theorem fold_andi {ι : Type} (f : ι → BitVec 1) (S : Finset ι) : S.fold IntOp.andi 1#1 f = 1#1 → ∀ e ∈ S, f e = 1#1 := by
  classical
  induction S using Finset.induction_on with
  | empty => intro _ e he; exact absurd he (Finset.notMem_empty e)
  | insert a S ha ih =>
    rw [Finset.fold_insert ha]
    intro h
    have hb : ∀ p q : BitVec 1, IntOp.andi p q = 1#1 → p = 1#1 ∧ q = 1#1 := by decide
    obtain ⟨h1, h2⟩ := hb _ _ h
    intro e he
    rcases Finset.mem_insert.mp he with rfl | he
    · exact h1
    · exact ih h2 e he

variable (l : FVec Ideal S32768x64 .f32) (n : Fin 32768)

theorem compared_apply (p : CmpFPredicate) (e f : Fin 64) :
    compared p l (ix3 n e f) = Ideal.cmp p (l (ix2 n f)) (l (ix2 n e)) := by
  unfold compared
  rw [cmpf_apply,
    broadcastInDim_apply _ bcast_S32768x1x64_S32768x64x64_0_1_2 _ (ix3 n e f) (ix3 n (0 : Fin 1) f)
      (fun a => match a with | ⟨0, _⟩ => rfl | ⟨1, _⟩ => rfl | ⟨2, _⟩ => rfl),
    broadcastInDim_apply _ bcast_S32768x64_S32768x1x64_0_2 _ (ix3 n (0 : Fin 1) f) (ix2 n f)
      (fun a => match a with | ⟨0, _⟩ => rfl | ⟨1, _⟩ => rfl),
    broadcastInDim_apply _ bcast_S32768x64x1_S32768x64x64_0_1_2 _ (ix3 n e f) (ix3 n e (0 : Fin 1))
      (fun a => match a with | ⟨0, _⟩ => rfl | ⟨1, _⟩ => rfl | ⟨2, _⟩ => rfl),
    broadcastInDim_apply _ bcast_S32768x64_S32768x64x1_0_1 _ (ix3 n e (0 : Fin 1)) (ix2 n e)
      (fun a => match a with | ⟨0, _⟩ => rfl | ⟨1, _⟩ => rfl), Ideal.cmpf_def]

theorem reduces64x64 : S32768x64x64.Reduces [2] S32768x64 := by decide

theorem counted_apply (p : CmpFPredicate) (e : Fin 64) :
    counted p l (ix2 n e)
      = BitVec.ofNat 32 (Finset.univ.filter fun f : Fin 64 => Ideal.cmp p (l (ix2 n f)) (l (ix2 n e)) = 1#1).card := by
  unfold counted
  rw [Host.reduce_eq_fold_single IntOp.addi _ _ reducesTo_S32768x64x64_S32768x64_d2 reduces64x64 h_S_ (ix2 n e)]
  refine Eq.trans ?_ (IndicatorCount.fold_addi_setWidth_eq_card (fun f : Fin 64 => Ideal.cmp p (l (ix2 n f)) (l (ix2 n e))) Finset.univ)
  refine congrArg (fun g => Finset.fold IntOp.addi 0#32 g Finset.univ) (funext fun (f : Fin 64) => ?_)
  have hi : (reduces64x64.lift (ix2 n e) f : S32768x64x64.Idx) = ix3 n e f :=
    funext fun a => match a with | ⟨0, _⟩ => rfl | ⟨1, _⟩ => rfl | ⟨2, _⟩ => rfl
  show BitVec.setWidth 32 (compared p l _) = _
  rw [hi, compared_apply]

theorem ofBool_decide {p : Prop} [Decidable p] : BitVec.ofBool (decide p) = 1#1 ↔ p := by
  by_cases h : p <;> simp [h]

theorem counted_above (e : Fin 64) : counted .ogt l (ix2 n e) = BitVec.ofNat 32 (above (Cert.ReferenceIdeal.row l n) e) := by
  rw [counted_apply]
  unfold above Cert.ReferenceIdeal.row Ideal.cmp
  simp only [ofBool_decide]

theorem counted_same (e : Fin 64) : counted .oeq l (ix2 n e) = BitVec.ofNat 32 (same (Cert.ReferenceIdeal.row l n) e) := by
  rw [counted_apply]
  unfold same Cert.ReferenceIdeal.row Ideal.cmp
  simp only [ofBool_decide]

theorem ofBits_inf : Ideal.ofBits .f32 0x7F800000#32 = ⊤ := by simp [Ideal.ofBits, Ideal.ieee]

/-- A logit whose absolute value is less than infinity is finite. -/
theorem finite_apply (e : Fin 64) (h : finite l (ix2 n e) = 1#1) :
    Cert.ReferenceIdeal.row l n e ≠ ⊤ ∧ Cert.ReferenceIdeal.row l n e ≠ ⊥ := by
  unfold finite at h
  rw [cmpf_apply, broadcastInDim_scalar_apply, constant_apply, ofBits_inf, Ideal.cmpf_def] at h
  have h' : max (l (ix2 n e)) (-(l (ix2 n e))) < ⊤ := ofBool_decide.mp h
  unfold Cert.ReferenceIdeal.row
  constructor
  · intro ht; rw [ht] at h'; simp at h'
  · intro hb; rw [hb] at h'; simp at h'

theorem card_le (p : Fin 64 → Prop) [DecidablePred p] : (Finset.univ.filter p).card ≤ 64 :=
  (Finset.card_filter_le _ _).trans (by simp)

theorem sge_eight : ∀ c : Fin 65, IntOp.cmpi .sge (BitVec.ofNat 32 c.val) 8#32 = 1#1 → 8 ≤ c.val := by decide
theorem eq_one : ∀ c : Fin 65, IntOp.cmpi .eq (BitVec.ofNat 32 c.val) 1#32 = 1#1 → c.val = 1 := by decide

/-- Where the token's bit is set, its row is separated. -/
theorem separated_of_ok (h : ok l (ix1 n) = 1#1) : Separated (Cert.ReferenceIdeal.row l n) := by
  intro e
  unfold ok at h
  rw [Host.reduce_eq_fold_single IntOp.andi _ _ reducesTo_S32768x64_S32768_d1 Cert.ReferenceIdeal.reduces64 h_S_ (ix1 n)] at h
  have he := fold_andi _ Finset.univ h e (Finset.mem_univ _)
  have he' : clear l (ix2 n e) = 1#1 := (congrArg (clear l) (Cert.ReferenceIdeal.lift64 n e)).symm.trans he
  have hor : ∀ p q r : BitVec 1, IntOp.ori p (IntOp.andi q r) = 1#1 → p = 1#1 ∨ (q = 1#1 ∧ r = 1#1) := by decide
  rcases hor (cmpi .sge (counted .ogt l) _ (ix2 n e)) (cmpi .eq (counted .oeq l) _ (ix2 n e)) (finite l (ix2 n e)) he' with h1 | ⟨h2, h3⟩
  · refine Or.inl ?_
    rw [cmpi_apply, broadcastInDim_scalar_apply, counted_above] at h1
    exact sge_eight ⟨above (Cert.ReferenceIdeal.row l n) e, Nat.lt_succ_of_le (card_le _)⟩ h1
  · refine Or.inr ⟨?_, finite_apply l n e h3⟩
    rw [cmpi_apply, broadcastInDim_scalar_apply, counted_same] at h2
    exact eq_one ⟨same (Cert.ReferenceIdeal.row l n) e, Nat.lt_succ_of_le (card_le _)⟩ h2

variable (x : FVec Ideal S32768x4096 .f32) (w : FVec Ideal S64x4096 .f32) (b : FVec Ideal S64 .f32)

/-- Where the mask of the weights is set, the token's row is separated … -/
theorem separated_of_weights (j : Fin 8) (h : (fn (F := Ideal) x w b).2.1 (ix2 n j) = 1#1) :
    Separated (Cert.ReferenceIdeal.row (Cert.ReferenceIdeal.logits x w b) n) := by
  refine separated_of_ok _ n (Eq.trans ?_ h)
  rw [fn_eq]
  dsimp only
  exact (Cert.ReferenceIdeal.spread8_apply (ok (Cert.ReferenceIdeal.logits x w b)) n j).symm

/-- … and where that of the experts is … -/
theorem separated_of_indices (j : Fin 8) (h : (fn (F := Ideal) x w b).2.2.1 (ix2 n j) = 1#1) :
    Separated (Cert.ReferenceIdeal.row (Cert.ReferenceIdeal.logits x w b) n) := by
  refine separated_of_ok _ n (Eq.trans ?_ h)
  rw [fn_eq]
  dsimp only
  exact (Cert.ReferenceIdeal.spread8_apply (ok (Cert.ReferenceIdeal.logits x w b)) n j).symm

/-- … and where that of the marks is. -/
theorem separated_of_marks (e : Fin 64) (j : Fin 8) (h : (fn (F := Ideal) x w b).2.2.2 (ix3 e j n) = 1#1) :
    Separated (Cert.ReferenceIdeal.row (Cert.ReferenceIdeal.logits x w b) n) := by
  refine separated_of_ok _ n (Eq.trans ?_ h)
  rw [fn_eq]
  dsimp only
  refine Eq.symm ((broadcastInDim_apply _ bcast_S1x1x32768_S64x8x32768_0_1_2
    (broadcastInDim S1x1x32768 ![2] bcast_S32768_S1x1x32768_2 (ok (Cert.ReferenceIdeal.logits x w b))) (ix3 e j n) (ix3 (0 : Fin 1) (0 : Fin 1) n)
    (fun a => match a with | ⟨0, _⟩ => rfl | ⟨1, _⟩ => rfl | ⟨2, _⟩ => rfl)).trans ?_)
  exact broadcastInDim_apply _ bcast_S32768_S1x1x32768_2 _ (ix3 (0 : Fin 1) (0 : Fin 1) n) (ix1 n) (fun a => match a with | ⟨0, _⟩ => rfl)

end Cert.On_separated
-- ==== Proof.Equation.lean ====
/- The kernel and the reference, from the same arguments, hold the same results wherever the mask is set. -/
module

public import proofs.«01_k».proof.Defs
public import proofs.«01_k».proof.Proof.Gen.Kernel
public import proofs.«01_k».proof.Proof.Arrays
public import proofs.«01_k».proof.Proof.ReferenceRun
public import proofs.«01_k».proof.Proof.Mask
public import Idealize.ShloMosaic.Lib.Claim

@[expose] public section

set_option maxRecDepth 16384

noncomputable section

namespace Cert.Proof

open Idealize.ShloMosaic hiding ix1 ix2 ix3
open Idealize.ShloMosaic.ValueIdx Idealize.ShloMosaic.TcCoe Idealize.SL.Sem
open Cert.Column

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The kernel's arguments as launched: the tokens … -/
def tokens : FVec Ideal Cert.ReferenceIdeal.S32768x4096 .f32 := m ((c.tc : Thread _ Cert.KernelIdeal.τ).loc Cert.KernelIdeal.main_arg0)
/-- … the experts' rows of weights … -/
def experts : FVec Ideal Cert.ReferenceIdeal.S64x4096 .f32 := m ((c.tc : Thread _ Cert.KernelIdeal.τ).loc Cert.KernelIdeal.main_arg1)
/-- … and their biases. -/
def biases : FVec Ideal Cert.ReferenceIdeal.S64 .f32 := m ((c.tc : Thread _ Cert.KernelIdeal.τ).loc Cert.KernelIdeal.main_arg2)

/-- The reference's logits of them. -/
def logits : FVec Ideal Cert.ReferenceIdeal.S32768x64 .f32 := Cert.ReferenceIdeal.logits (tokens m c) (experts m c) (biases m c)

/-- A token's row of the reference's logits is the kernel's. -/
theorem row_logits (n : Fin 32768) : Cert.ReferenceIdeal.row (logits m c) n = Cert.KernelIdeal.logitOf m c n :=
  funext fun e => Cert.ReferenceIdeal.logits_apply (tokens m c) (experts m c) (biases m c) n e

variable (after : (w : Fin Cert.KernelIdeal.cfg0.W) → Fin Cert.KernelIdeal.cfg0.N → (Cert.KernelIdeal.cfg0.win w).block.Idx
    → Elt Ideal (Cert.KernelIdeal.cfg0.win w).elt)
  (hleaves : ∀ w u, (Cert.KernelIdeal.cfg0.win w).flush u = true → (Cert.KernelIdeal.rdata m c).Leaves w u (after w u))

include hleaves in
/-- The logits agree. -/
theorem equal_logits (i : (⟨2, ![32768, 64]⟩ : Shape).Idx) :
    ((Cert.KernelIdeal.rdata m c).withAfter after).arrAt 3 Cert.KernelIdeal.cfg0.N i = logits m c i := by
  obtain ⟨n, e, rfl⟩ : ∃ (n : Fin 32768) (e : Fin 64), i = ix2 n e := ⟨i 0, i 1, ValueIdx.eq_ix2 i⟩
  exact (Cert.KernelIdeal.array_logits m c after hleaves n e).trans
    (Cert.ReferenceIdeal.logits_apply (tokens m c) (experts m c) (biases m c) n e).symm

include hleaves in
/-- The weights agree where the mask is set. -/
theorem equal_weights (i : (⟨2, ![32768, 8]⟩ : Shape).Idx)
    (h : (Cert.On_separated.fn (F := Ideal) (tokens m c) (experts m c) (biases m c)).2.1 i = 1#1) :
    ((Cert.KernelIdeal.rdata m c).withAfter after).arrAt 4 Cert.KernelIdeal.cfg0.N i
      = Cert.ReferenceIdeal.renormalize (Cert.ReferenceIdeal.eight (Cert.ReferenceIdeal.shares (logits m c))).1 i := by
  obtain ⟨n, j, rfl⟩ : ∃ (n : Fin 32768) (j : Fin 8), i = ix2 n j := ⟨i 0, i 1, ValueIdx.eq_ix2 i⟩
  have hv : Separated (Cert.ReferenceIdeal.row (logits m c) n) := Cert.On_separated.separated_of_weights n _ _ _ j h
  rw [Cert.ReferenceIdeal.weights_apply (logits m c) n hv j, row_logits]
  rw [row_logits] at hv
  exact Cert.KernelIdeal.array_weights m c after hleaves n j hv

include hleaves in
/-- The experts' numbers agree where the mask is set. -/
theorem equal_indices (i : (⟨2, ![32768, 8]⟩ : Shape).Idx)
    (h : (Cert.On_separated.fn (F := Ideal) (tokens m c) (experts m c) (biases m c)).2.2.1 i = 1#1) :
    ((Cert.KernelIdeal.rdata m c).withAfter after).arrAt 5 Cert.KernelIdeal.cfg0.N i
      = (Cert.ReferenceIdeal.eight (Cert.ReferenceIdeal.shares (logits m c))).2 i := by
  obtain ⟨n, j, rfl⟩ : ∃ (n : Fin 32768) (j : Fin 8), i = ix2 n j := ⟨i 0, i 1, ValueIdx.eq_ix2 i⟩
  have hv : Separated (Cert.ReferenceIdeal.row (logits m c) n) := Cert.On_separated.separated_of_indices n _ _ _ j h
  rw [Cert.ReferenceIdeal.indices_apply (logits m c) n hv j, row_logits]
  rw [row_logits] at hv
  exact Cert.KernelIdeal.array_indices m c after hleaves n j hv

include hleaves in
/-- The marks agree where the mask is set. -/
theorem equal_marks (i : (⟨3, ![64, 8, 32768]⟩ : Shape).Idx)
    (h : (Cert.On_separated.fn (F := Ideal) (tokens m c) (experts m c) (biases m c)).2.2.2 i = 1#1) :
    ((Cert.KernelIdeal.rdata m c).withAfter after).arrAt 6 Cert.KernelIdeal.cfg0.N i
      = Cert.ReferenceIdeal.marks (Cert.ReferenceIdeal.eight (Cert.ReferenceIdeal.shares (logits m c))).2 i := by
  obtain ⟨e, j, n, rfl⟩ : ∃ (e : Fin 64) (j : Fin 8) (n : Fin 32768), i = ix3 e j n := ⟨i 0, i 1, i 2, ValueIdx.eq_ix3 i⟩
  have hv : Separated (Cert.ReferenceIdeal.row (logits m c) n) := Cert.On_separated.separated_of_marks n _ _ _ e j h
  rw [Cert.ReferenceIdeal.marks_eight_apply (logits m c) n hv e j, row_logits]
  rw [row_logits] at hv
  exact Cert.KernelIdeal.array_marks m c after hleaves e j n hv

/-- The reference's logits of arguments that are the kernel's. -/
theorem logitsAt_eq (h0 : m' ((c.tc : Thread _ Cert.ReferenceIdeal.τ).loc Cert.ReferenceIdeal.main_arg0) = tokens m c)
    (h1 : m' ((c.tc : Thread _ Cert.ReferenceIdeal.τ).loc Cert.ReferenceIdeal.main_arg1) = experts m c)
    (h2 : m' ((c.tc : Thread _ Cert.ReferenceIdeal.τ).loc Cert.ReferenceIdeal.main_arg2) = biases m c) :
    Cert.ReferenceIdeal.logitsAt m' c = logits m c := by
  unfold Cert.ReferenceIdeal.logitsAt logits
  rw [h0, h1, h2]

/-- The eight greatest of its softmax. -/
theorem eightAt_eq (h : Cert.ReferenceIdeal.logitsAt m' c = logits m c) :
    Cert.ReferenceIdeal.eightAt m' c = Cert.ReferenceIdeal.eight (Cert.ReferenceIdeal.shares (logits m c)) := by
  unfold Cert.ReferenceIdeal.eightAt
  rw [h]

end Cert.Proof
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_separated
public import proofs.«01_k».proof.Proof.Gen.ReferenceIdeal.Run
public import proofs.«01_k».proof.Proof.Run
public import proofs.«01_k».proof.Proof.KernelFrame
public import proofs.«01_k».proof.Proof.Arrays
public import proofs.«01_k».proof.Proof.ReferenceRun
public import proofs.«01_k».proof.Proof.Equation
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- From the same arguments the two programs end with the same results wherever the mask is set: the values both are held to
    are the reference's terms. -/
theorem equation : Cert.algebraic_KernelIdeal_ReferenceIdeal_on_separated (hKernelIdeal := Cert.KernelIdeal.Gen.facts)
    (hReferenceIdeal := Cert.ReferenceIdeal.Gen.facts) (hOn_separated := Cert.On_separated.Gen.facts) := by
  intro m g m' g' _ hargs
  refine ⟨logits m, fun c => Cert.ReferenceIdeal.renormalize (Cert.ReferenceIdeal.eight (Cert.ReferenceIdeal.shares (logits m c))).1,
    fun c => (Cert.ReferenceIdeal.eight (Cert.ReferenceIdeal.shares (logits m c))).2,
    fun c => Cert.ReferenceIdeal.marks (Cert.ReferenceIdeal.eight (Cert.ReferenceIdeal.shares (logits m c))).2, ?_, ?_⟩
  · refine (θ_run _ _ _).mono (fun r h c => ?_) (Cert.KernelIdeal.run_arrays (F := Ideal) m g)
    obtain ⟨⟨after, hleaves, harr⟩, hkept⟩ := h c
    exact ⟨fun i _ => (congrFun (harr 3) i).trans (equal_logits m c after hleaves i),
      fun i hi => (congrFun (harr 4) i).trans (equal_weights m c after hleaves i hi),
      fun i hi => (congrFun (harr 5) i).trans (equal_indices m c after hleaves i hi),
      fun i hi => (congrFun (harr 6) i).trans (equal_marks m c after hleaves i hi), hkept⟩
  · refine (θ_run _ _ _).mono (fun r h c => ?_) (Cert.ReferenceIdeal.run m' g')
    obtain ⟨hlogits, hweights, hindices, hmarks, hkept⟩ := h c
    have hl : Cert.ReferenceIdeal.logitsAt m' c = logits m c := logitsAt_eq m m' c (hargs c).1 (hargs c).2.1 (hargs c).2.2
    rw [hl] at hlogits
    rw [eightAt_eq m m' c hl] at hweights hindices hmarks
    exact ⟨fun i _ => congrFun hlogits i, fun i _ => congrFun hweights i, fun i _ => congrFun hindices i, fun i _ => congrFun hmarks i, hkept⟩

/-- Everything the certificate claims. -/
theorem claim : Cert.Claim := ⟨Cert.Kernel.Gen.facts, Cert.KernelIdeal.Gen.facts, Cert.ReferenceIdeal.Gen.facts, Cert.On_separated.Gen.facts,
  fun m g _ => Cert.Kernel.frame m g, fun m g _ => Cert.KernelIdeal.frame m g, fun m g _ => Cert.ReferenceIdeal.frame m g,
  trivial, equation⟩

end Cert.Proof

end
